-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "quarter_log2e" .f32 0x3EB8AA3B#32 (((1 / 4) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109_0) = v0 c
          ∧ r.2.mem ((c.tc : Thread Cert.ReferenceIdeal.nD Cert.ReferenceIdeal.τ).loc Cert.ReferenceIdeal.main_v109_1) = v1 c
          ∧ r.2.mem ((c.tc : Thread Cert.ReferenceIdeal.nD Cert.ReferenceIdeal.τ).loc Cert.ReferenceIdeal.main_v109_2) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2 : Shape := ⟨1, ![2]⟩
abbrev S116736x640 : Shape := ⟨2, ![116736, 640]⟩
abbrev S_ : Shape := ⟨0, ![]⟩

class Facts : Prop where
  bitsLt_bf16_f32 : FTy.bits .bf16 < FTy.bits .f32
  bcast_S_S116736x640 : S_.BroadcastsInDim S116736x640 (![] : Fin 0 → Fin S116736x640.rank)

variable [Facts]

def fn {F : FTy → Type} [FloatOps F] (main_arg0 : IVec S2 32) (main_arg1 : FVec F S116736x640 .bf16) (main_arg2 : FVec F S116736x640 .bf16) (main_arg3 : FVec F S116736x640 .bf16) : IVec S116736x640 1 × IVec S116736x640 1 × IVec S116736x640 1 :=
  let main_v0 : FVec F S116736x640 .f32 := (extf .f32 · bitsLt_bf16_f32) main_arg1
  let main_v1 : FVec F S116736x640 .f32 := Host.absf main_v0
  let main_cst : FVec F S_ .f32 := constant S_ .f32 0x7F7F0000#32
  let main_v2 : FVec F S116736x640 .f32 := broadcastInDim S116736x640 ![] bcast_S_S116736x640 main_cst
  let main_v3 : IVec S116736x640 1 := cmpf .ole main_v1 main_v2
  let main_v4 : FVec F S116736x640 .f32 := (extf .f32 · bitsLt_bf16_f32) main_arg2
  let main_v5 : FVec F S116736x640 .f32 := Host.absf main_v4
  let main_cst_0 : FVec F S_ .f32 := constant S_ .f32 0x7F7F0000#32
  let main_v6 : FVec F S116736x640 .f32 := broadcastInDim S116736x640 ![] bcast_S_S116736x640 main_cst_0
  let main_v7 : IVec S116736x640 1 := cmpf .ole main_v5 main_v6
  let main_v8 : FVec F S116736x640 .f32 := (extf .f32 · bitsLt_bf16_f32) main_arg3
  let main_v9 : FVec F S116736x640 .f32 := Host.absf main_v8
  let main_cst_1 : FVec F S_ .f32 := constant S_ .f32 0x7F7F0000#32
  let main_v10 : FVec F S116736x640 .f32 := broadcastInDim S116736x640 ![] bcast_S_S116736x640 main_cst_1
  let main_v11 : IVec S116736x640 1 := cmpf .ole main_v9 main_v10
  (main_v3, main_v7, main_v11)
-- ==== Kernel.lean ====
abbrev S2 : Shape := ⟨1, ![2]⟩
abbrev S116736x640 : Shape := ⟨2, ![116736, 640]⟩
abbrev S2x57x40x16x1024 : Shape := ⟨5, ![2, 57, 40, 16, 1024]⟩
abbrev S2x57x8x640 : Shape := ⟨4, ![2, 57, 8, 640]⟩
abbrev S1024x640 : Shape := ⟨2, ![1024, 640]⟩
abbrev S1x1x40x16x1024 : Shape := ⟨5, ![1, 1, 40, 16, 1024]⟩
abbrev S1x1x8x640 : Shape := ⟨4, ![1, 1, 8, 640]⟩
abbrev S40x128x1024 : Shape := ⟨3, ![40, 128, 1024]⟩
abbrev S640x1024 : Shape := ⟨2, ![640, 1024]⟩
abbrev S640x128 : Shape := ⟨2, ![640, 128]⟩
abbrev S1 : Shape := ⟨1, ![1]⟩
abbrev S1024x1 : Shape := ⟨2, ![1024, 1]⟩
abbrev S640 : Shape := ⟨1, ![640]⟩
abbrev S1x640 : Shape := ⟨2, ![1, 640]⟩
abbrev S8x640 : Shape := ⟨2, ![8, 640]⟩
abbrev S16x1024 : Shape := ⟨2, ![16, 1024]⟩
abbrev S1x16x1024 : Shape := ⟨3, ![1, 16, 1024]⟩
abbrev S128x640 : Shape := ⟨2, ![128, 640]⟩
abbrev S1x256 : Shape := ⟨2, ![1, 256]⟩
abbrev S1024x128 : Shape := ⟨2, ![1024, 128]⟩
abbrev S16x128 : Shape := ⟨2, ![16, 128]⟩
abbrev S1x16x128 : Shape := ⟨3, ![1, 16, 128]⟩
abbrev S1x1x1 : Shape := ⟨3, ![1, 1, 1]⟩
abbrev S1x1 : Shape := ⟨2, ![1, 1]⟩
abbrev S1x128x256 : Shape := ⟨3, ![1, 128, 256]⟩
abbrev S128x256 : Shape := ⟨2, ![128, 256]⟩
abbrev S1024x256 : Shape := ⟨2, ![1024, 256]⟩
abbrev S256 : Shape := ⟨1, ![256]⟩
abbrev S16x256 : Shape := ⟨2, ![16, 256]⟩

abbrev nBuf : Space → Nat
  | .hbm => 8
  | .vmem => 22
  | .smem => 1
  | _ => 0

abbrev bufTy : (tb : Table) → Fin (tcTables nBuf tb) → BufTy
  | .hbm, ⟨0, _⟩ => ⟨S116736x640, .bf16⟩
  | .hbm, ⟨1, _⟩ => ⟨S116736x640, .bf16⟩
  | .hbm, ⟨2, _⟩ => ⟨S116736x640, .bf16⟩
  | .hbm, ⟨3, _⟩ => ⟨S2x57x40x16x1024, .fp8e4m3⟩
  | .hbm, ⟨4, _⟩ => ⟨S2x57x40x16x1024, .fp8e4m3⟩
  | .hbm, ⟨5, _⟩ => ⟨S2x57x40x16x1024, .fp8e4m3⟩
  | .hbm, ⟨6, _⟩ => ⟨S2x57x8x640, .f32⟩
  | .hbm, ⟨7, _⟩ => ⟨S116736x640, .bf16⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1x1x40x16x1024, .fp8e4m3⟩
  | .local _ .vmem, ⟨7, _⟩ => ⟨S1x1x40x16x1024, .fp8e4m3⟩
  | .local _ .vmem, ⟨8, _⟩ => ⟨S1x1x40x16x1024, .fp8e4m3⟩
  | .local _ .vmem, ⟨9, _⟩ => ⟨S1x1x40x16x1024, .fp8e4m3⟩
  | .local _ .vmem, ⟨10, _⟩ => ⟨S1x1x40x16x1024, .fp8e4m3⟩
  | .local _ .vmem, ⟨11, _⟩ => ⟨S1x1x40x16x1024, .fp8e4m3⟩
  | .local _ .vmem, ⟨12, _⟩ => ⟨S1x1x8x640, .f32⟩
  | .local _ .vmem, ⟨13, _⟩ => ⟨S1x1x8x640, .f32⟩
  | .local _ .vmem, ⟨14, _⟩ => ⟨S1024x640, .bf16⟩
  | .local _ .vmem, ⟨15, _⟩ => ⟨S1024x640, .bf16⟩
  | .local _ .vmem, ⟨16, _⟩ => ⟨S40x128x1024, .fp8e4m3⟩
  | .local _ .vmem, ⟨17, _⟩ => ⟨S1024x640, .fp8e4m3⟩
  | .local _ .vmem, ⟨18, _⟩ => ⟨S640x1024, .bf16⟩
  | .local _ .vmem, ⟨19, _⟩ => ⟨S640x1024, .f32⟩
  | .local _ .vmem, ⟨20, _⟩ => ⟨S640x128, .f32⟩
  | .local _ .vmem, ⟨21, _⟩ => ⟨S640x128, .f32⟩
  | .local _ .smem, ⟨0, _⟩ => ⟨S2, .i32⟩
  | _, _ => ⟨S116736x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![57, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_242 : BitVec 32 := 0#32
  let c40_i32 : BitVec 32 := 40#32
  let v636 : BitVec 32 := Scalar.addi c0_i32_242 c40_i32
  let c1_i32_243 : BitVec 32 := 1#32
  ⟨c0_i32_242, v636, c1_i32_243⟩
def k0_mult1 (k0_t1 : Fin k0_t1_loop.trips) : BitVec 32 :=
  let c0_i32_242 : BitVec 32 := 0#32
  let c1_i32_243 : BitVec 32 := 1#32
  let arg17 : BitVec 32 := Scf.iv c0_i32_242 c1_i32_243 k0_t1
  let c0_i32_250 : BitVec 32 := 0#32
  let v642 : BitVec 1 := Scalar.cmpi .sgt arg17 c0_i32_250
  let v643 : BitVec 32 := Scalar.extui v642
  let c0_i32_251 : BitVec 32 := 0#32
  let v644 : BitVec 1 := Scalar.cmpi .slt arg17 c0_i32_251
  let v645 : BitVec 32 := Scalar.extui v644
  let v646 : BitVec 32 := Scalar.subi v643 v645
  let c8_i32_249 : BitVec 32 := 8#32
  let c0_i32_252 : BitVec 32 := 0#32
  let v647 : BitVec 1 := Scalar.cmpi .sgt c8_i32_249 c0_i32_252
  let v648 : BitVec 32 := Scalar.extui v647
  let c0_i32_253 : BitVec 32 := 0#32
  let v649 : BitVec 1 := Scalar.cmpi .slt c8_i32_249 c0_i32_253
  let v650 : BitVec 32 := Scalar.extui v649
  let v651 : BitVec 32 := Scalar.subi v648 v650
  let v652 : BitVec 1 := Scalar.cmpi .ne v646 v651
  let v653 : BitVec 32 := Scalar.remsi arg17 c8_i32_249
  let c0_i32_254 : BitVec 32 := 0#32
  let v654 : BitVec 1 := Scalar.cmpi .ne v653 c0_i32_254
  let v655 : BitVec 1 := Scalar.andi v652 v654
  let v641 : BitVec 32 := Scalar.divsi arg17 c8_i32_249
  let c1_i32_255 : BitVec 32 := 1#32
  let v656 : BitVec 32 := Scalar.subi v641 c1_i32_255
  let v657 : BitVec 32 := Scalar.select v655 v656 v641
  let c128_i32_256 : BitVec 32 := 128#32
  let v658 : BitVec 32 := Scalar.muli v657 c128_i32_256
  v658
def k0_off2 (k0_t1 : Fin k0_t1_loop.trips) : Fin 2 → Nat :=
  let c0_257 : Index := 0#32
  let c0_i32_242 : BitVec 32 := 0#32
  let c1_i32_243 : BitVec 32 := 1#32
  let arg17 : BitVec 32 := Scf.iv c0_i32_242 c1_i32_243 k0_t1
  let c0_i32_250 : BitVec 32 := 0#32
  let v642 : BitVec 1 := Scalar.cmpi .sgt arg17 c0_i32_250
  let v643 : BitVec 32 := Scalar.extui v642
  let c0_i32_251 : BitVec 32 := 0#32
  let v644 : BitVec 1 := Scalar.cmpi .slt arg17 c0_i32_251
  let v645 : BitVec 32 := Scalar.extui v644
  let v646 : BitVec 32 := Scalar.subi v643 v645
  let c8_i32_249 : BitVec 32 := 8#32
  let c0_i32_252 : BitVec 32 := 0#32
  let v647 : BitVec 1 := Scalar.cmpi .sgt c8_i32_249 c0_i32_252
  let v648 : BitVec 32 := Scalar.extui v647
  let c0_i32_253 : BitVec 32 := 0#32
  let v649 : BitVec 1 := Scalar.cmpi .slt c8_i32_249 c0_i32_253
  let v650 : BitVec 32 := Scalar.extui v649
  let v651 : BitVec 32 := Scalar.subi v648 v650
  let v652 : BitVec 1 := Scalar.cmpi .ne v646 v651
  let v653 : BitVec 32 := Scalar.remsi arg17 c8_i32_249
  let c0_i32_254 : BitVec 32 := 0#32
  let v654 : BitVec 1 := Scalar.cmpi .ne v653 c0_i32_254
  let v655 : BitVec 1 := Scalar.andi v652 v654
  let v641 : BitVec 32 := Scalar.divsi arg17 c8_i32_249
  let c1_i32_255 : BitVec 32 := 1#32
  let v656 : BitVec 32 := Scalar.subi v641 c1_i32_255
  let v657 : BitVec 32 := Scalar.select v655 v656 v641
  let c128_i32_256 : BitVec 32 := 128#32
  let v658 : BitVec 32 := Scalar.muli v657 c128_i32_256
  let v659 : BitVec 32 := v658
  let v660 : Index := Scalar.indexCast v659
  ![0, v660.toNat]
def k0_mult2 (k0_t1 : Fin k0_t1_loop.trips) : BitVec 32 :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  v662
def k0_off3 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v664 : Index := Scalar.indexCast v663
  let c0_259 : Index := 0#32
  ![v664.toNat, 0]
def k0_off4 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v666 : Index := Scalar.indexCast v663
  let c0_260 : Index := 0#32
  ![v666.toNat, 0]
def k0_off5 (k0_t1 : Fin k0_t1_loop.trips) : Fin 3 → Nat :=
  let c0_i32_242 : BitVec 32 := 0#32
  let c1_i32_243 : BitVec 32 := 1#32
  let arg17 : BitVec 32 := Scf.iv c0_i32_242 c1_i32_243 k0_t1
  let v680 : Index := Scalar.indexCast arg17
  let c0_264 : Index := 0#32
  let c0_265 : Index := 0#32
  ![v680.toNat, 0, 0]
def k0_off6 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v716 : Index := Scalar.indexCast v663
  let c0_275 : Index := 0#32
  ![v716.toNat, 0]
def k0_off7 (k0_t1 : Fin k0_t1_loop.trips) : Fin 3 → Nat :=
  let c0_i32_242 : BitVec 32 := 0#32
  let c1_i32_243 : BitVec 32 := 1#32
  let arg17 : BitVec 32 := Scf.iv c0_i32_242 c1_i32_243 k0_t1
  let v720 : Index := Scalar.indexCast arg17
  let c0_276 : Index := 0#32
  let c256 : Index := 256#32
  ![v720.toNat, 0, 256]
def k0_off8 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v756 : Index := Scalar.indexCast v663
  let c256_285 : Index := 256#32
  ![v756.toNat, 256]
def k0_off9 (k0_t1 : Fin k0_t1_loop.trips) : Fin 3 → Nat :=
  let c0_i32_242 : BitVec 32 := 0#32
  let c1_i32_243 : BitVec 32 := 1#32
  let arg17 : BitVec 32 := Scf.iv c0_i32_242 c1_i32_243 k0_t1
  let v760 : Index := Scalar.indexCast arg17
  let c0_286 : Index := 0#32
  let c512 : Index := 512#32
  ![v760.toNat, 0, 512]
def k0_off10 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v796 : Index := Scalar.indexCast v663
  let c512_296 : Index := 512#32
  ![v796.toNat, 512]
def k0_off11 (k0_t1 : Fin k0_t1_loop.trips) : Fin 3 → Nat :=
  let c0_i32_242 : BitVec 32 := 0#32
  let c1_i32_243 : BitVec 32 := 1#32
  let arg17 : BitVec 32 := Scf.iv c0_i32_242 c1_i32_243 k0_t1
  let v800 : Index := Scalar.indexCast arg17
  let c0_297 : Index := 0#32
  let c768 : Index := 768#32
  ![v800.toNat, 0, 768]
def k0_off12 (k0_t1 : Fin k0_t1_loop.trips) : Fin 2 → Nat :=
  let c0_i32_242 : BitVec 32 := 0#32
  let c1_i32_243 : BitVec 32 := 1#32
  let arg17 : BitVec 32 := Scf.iv c0_i32_242 c1_i32_243 k0_t1
  let c16_i32_258 : BitVec 32 := 16#32
  let v662 : BitVec 32 := Scalar.muli arg17 c16_i32_258
  let v663 : BitVec 32 := v662
  let v836 : Index := Scalar.indexCast v663
  let c768_306 : Index := 768#32
  ![v836.toNat, 768]
def k0_cond2 (i : grid0.Coords) (v1 : BitVec 32) : BitVec 1 :=
  let arg0 : BitVec 32 := BitVec.ofNat 32 (i 0).val
  let c1024_i32 : BitVec 32 := 1024#32
  let v2 : BitVec 32 := Scalar.muli arg0 c1024_i32
  let c512_i32 : BitVec 32 := 512#32
  let v3 : BitVec 32 := Scalar.subi v2 c512_i32
  let v610 : BitVec 1 := Scalar.cmpi .slt v3 v1
  let v611 : BitVec 32 := Scalar.extui v610
  let c0_i32_235 : BitVec 32 := 0#32
  let v612 : BitVec 1 := Scalar.cmpi .ne v611 c0_i32_235
  v612

def k0_cond3 (i : grid0.Coords) (v1 : BitVec 32) : BitVec 1 :=
  let arg0 : BitVec 32 := BitVec.ofNat 32 (i 0).val
  let c1024_i32 : BitVec 32 := 1024#32
  let v2 : BitVec 32 := Scalar.muli arg0 c1024_i32
  let c512_i32 : BitVec 32 := 512#32
  let v3 : BitVec 32 := Scalar.subi v2 c512_i32
  let v610 : BitVec 1 := Scalar.cmpi .slt v3 v1
  let v_true : BitVec 1 := 1#1
  let v613 : BitVec 1 := Scalar.xori v610 v_true
  let v614 : BitVec 32 := Scalar.extui v613
  let c0_i32_236 : BitVec 32 := 0#32
  let v615 : BitVec 1 := Scalar.cmpi .ne v614 c0_i32_236
  v615

def cc0_transform_0 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.muli arg1 c57_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.muli arg1 c57_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.muli arg1 c57_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.muli arg1 c57_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x40x16x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x40x16x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x40x16x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "quarter_log2e" => some (((1 / 4) * (Real.log 2)⁻¹ : ℝ) : EReal)
  | _ => none
-- ==== ReferenceIdeal.lean ====
abbrev S2 : Shape := ⟨1, ![2]⟩
abbrev S116736x640 : Shape := ⟨2, ![116736, 640]⟩
abbrev S58368 : Shape := ⟨1, ![58368]⟩
abbrev S_ : Shape := ⟨0, ![]⟩
abbrev S1x58368 : Shape := ⟨2, ![1, 58368]⟩
abbrev S2x1 : Shape := ⟨2, ![2, 1]⟩
abbrev S2x58368 : Shape := ⟨2, ![2, 58368]⟩
abbrev S2x57x1024 : Shape := ⟨3, ![2, 57, 1024]⟩
abbrev S253 : Shape := ⟨1, ![253]⟩
abbrev S1x58368x1 : Shape := ⟨3, ![1, 58368, 1]⟩
abbrev S2x58368x640 : Shape := ⟨3, ![2, 58368, 640]⟩
abbrev S2x57x1024x40x16 : Shape := ⟨5, ![2, 57, 1024, 40, 16]⟩
abbrev S2x57x1024x1x1 : Shape := ⟨5, ![2, 57, 1024, 1, 1]⟩
abbrev S2x57x40 : Shape := ⟨3, ![2, 57, 40]⟩
abbrev S2x57x40x1 : Shape := ⟨4, ![2, 57, 40, 1]⟩
abbrev S1x1x1x253 : Shape := ⟨4, ![1, 1, 1, 253]⟩
abbrev S2x57x40x253 : Shape := ⟨4, ![2, 57, 40, 253]⟩
abbrev S2x57x1x40x1 : Shape := ⟨5, ![2, 57, 1, 40, 1]⟩
abbrev S2x57x40x16x1024 : Shape := ⟨5, ![2, 57, 40, 16, 1024]⟩
abbrev S2x57x40x1024x1024 : Shape := ⟨5, ![2, 57, 40, 1024, 1024]⟩
abbrev S2x57x40x1x1 : Shape := ⟨5, ![2, 57, 40, 1, 1]⟩
abbrev S2x57x1x1x1024 : Shape := ⟨5, ![2, 57, 1, 1, 1024]⟩
abbrev S2x57x40x1024 : Shape := ⟨4, ![2, 57, 40, 1024]⟩
abbrev S2x57x40x1024x1 : Shape := ⟨5, ![2, 57, 40, 1024, 1]⟩
abbrev S2x57x40x1024x16 : Shape := ⟨5, ![2, 57, 40, 1024, 16]⟩
abbrev S2x57x1x1024x1 : Shape := ⟨5, ![2, 57, 1, 1024, 1]⟩
abbrev S2x57x1x40 : Shape := ⟨4, ![2, 57, 1, 40]⟩
abbrev S2x57x8x40 : Shape := ⟨4, ![2, 57, 8, 40]⟩
abbrev S2x57x8x40x16 : Shape := ⟨5, ![2, 57, 8, 40, 16]⟩
abbrev S2x57x8x640 : Shape := ⟨4, ![2, 57, 8, 640]⟩

abbrev nBuf : Space → Nat
  | .hbm => 259
  | .vmem => 9
  | .smem => 0
  | _ => 0

abbrev hbmTy0_0 (i : Nat) : BufTy := match i % 128 with
  | 0 => ⟨S2, .i32⟩
  | 1 => ⟨S116736x640, .bf16⟩
  | 2 => ⟨S116736x640, .bf16⟩
  | 3 => ⟨S116736x640, .bf16⟩
  | 4 => ⟨S58368, .i32⟩
  | 5 => ⟨S_, .i32⟩
  | 6 => ⟨S58368, .i32⟩
  | 7 => ⟨S58368, .i32⟩
  | 8 => ⟨S_, .i32⟩
  | 9 => ⟨S58368, .i32⟩
  | 10 => ⟨S58368, .i1⟩
  | 11 => ⟨S_, .i32⟩
  | 12 => ⟨S58368, .i32⟩
  | 13 => ⟨S58368, .i1⟩
  | 14 => ⟨S58368, .i1⟩
  | 15 => ⟨S1x58368, .i32⟩
  | 16 => ⟨S_, .i32⟩
  | 17 => ⟨S1x58368, .i32⟩
  | 18 => ⟨S1x58368, .i1⟩
  | 19 => ⟨S1x58368, .i32⟩
  | 20 => ⟨S2x1, .i32⟩
  | 21 => ⟨S2x58368, .i32⟩
  | 22 => ⟨S2x58368, .i32⟩
  | 23 => ⟨S2x58368, .i1⟩
  | 24 => ⟨S2x58368, .i1⟩
  | 25 => ⟨S2x58368, .i1⟩
  | 26 => ⟨S2x57x1024, .i1⟩
  | 27 => ⟨S253, .i32⟩
  | 28 => ⟨S_, .i32⟩
  | 29 => ⟨S253, .i32⟩
  | 30 => ⟨S253, .i32⟩
  | 31 => ⟨S253, .f32⟩
  | 32 => ⟨S_, .f32⟩
  | 33 => ⟨S253, .f32⟩
  | 34 => ⟨S253, .f32⟩
  | 35 => ⟨S1x58368x1, .i1⟩
  | 36 => ⟨S2x58368x640, .bf16⟩
  | 37 => ⟨S2x58368x640, .f32⟩
  | 38 => ⟨S_, .f32⟩
  | 39 => ⟨S_, .f32⟩
  | 40 => ⟨S2x58368x640, .i1⟩
  | 41 => ⟨S2x58368x640, .f32⟩
  | 42 => ⟨S2x58368x640, .f32⟩
  | 43 => ⟨S2x57x1024x40x16, .f32⟩
  | 44 => ⟨S2x57x1024x1x1, .i1⟩
  | 45 => ⟨S2x57x1024x40x16, .f32⟩
  | 46 => ⟨S_, .f32⟩
  | 47 => ⟨S_, .f32⟩
  | 48 => ⟨S2x57x1024x40x16, .i1⟩
  | 49 => ⟨S2x57x1024x40x16, .f32⟩
  | 50 => ⟨S2x57x1024x40x16, .f32⟩
  | 51 => ⟨S_, .f32⟩
  | 52 => ⟨S2x57x40, .f32⟩
  | 53 => ⟨S_, .f32⟩
  | 54 => ⟨S2x57x40, .f32⟩
  | 55 => ⟨S2x57x40, .f32⟩
  | 56 => ⟨S2x57x40x1, .f32⟩
  | 57 => ⟨S1x1x1x253, .f32⟩
  | 58 => ⟨S2x57x40x253, .f32⟩
  | 59 => ⟨S2x57x40x253, .f32⟩
  | 60 => ⟨S2x57x40x253, .i1⟩
  | 61 => ⟨S_, .f32⟩
  | 62 => ⟨S_, .f32⟩
  | 63 => ⟨S2x57x40x253, .f32⟩
  | 64 => ⟨S2x57x40x253, .f32⟩
  | 65 => ⟨S2x57x40x253, .f32⟩
  | 66 => ⟨S_, .f32⟩
  | 67 => ⟨S2x57x40, .f32⟩
  | 68 => ⟨S_, .f32⟩
  | 69 => ⟨S2x57x40, .f32⟩
  | 70 => ⟨S2x57x40, .i1⟩
  | 71 => ⟨S_, .f32⟩
  | 72 => ⟨S_, .f32⟩
  | 73 => ⟨S2x57x40, .f32⟩
  | 74 => ⟨S2x57x40, .f32⟩
  | 75 => ⟨S_, .f32⟩
  | 76 => ⟨S2x57x40, .f32⟩
  | 77 => ⟨S2x57x40, .f32⟩
  | 78 => ⟨S2x57x1x40x1, .f32⟩
  | 79 => ⟨S2x57x1024x40x16, .f32⟩
  | 80 => ⟨S2x57x1024x40x16, .f32⟩
  | 81 => ⟨S_, .f32⟩
  | 82 => ⟨S_, .f32⟩
  | 83 => ⟨S_, .f32⟩
  | 84 => ⟨S2x57x1024x40x16, .f32⟩
  | 85 => ⟨S2x57x1024x40x16, .f32⟩
  | 86 => ⟨S_, .f32⟩
  | 87 => ⟨S2x57x1024x40x16, .f32⟩
  | 88 => ⟨S2x57x1024x40x16, .f32⟩
  | 89 => ⟨S2x57x40x16x1024, .f32⟩
  | 90 => ⟨S1x58368x1, .i1⟩
  | 91 => ⟨S2x58368x640, .bf16⟩
  | 92 => ⟨S2x58368x640, .f32⟩
  | 93 => ⟨S_, .f32⟩
  | 94 => ⟨S_, .f32⟩
  | 95 => ⟨S2x58368x640, .i1⟩
  | 96 => ⟨S2x58368x640, .f32⟩
  | 97 => ⟨S2x58368x640, .f32⟩
  | 98 => ⟨S2x57x1024x40x16, .f32⟩
  | 99 => ⟨S2x57x1024x1x1, .i1⟩
  | 100 => ⟨S2x57x1024x40x16, .f32⟩
  | 101 => ⟨S_, .f32⟩
  | 102 => ⟨S_, .f32⟩
  | 103 => ⟨S2x57x1024x40x16, .i1⟩
  | 104 => ⟨S2x57x1024x40x16, .f32⟩
  | 105 => ⟨S2x57x1024x40x16, .f32⟩
  | 106 => ⟨S_, .f32⟩
  | 107 => ⟨S2x57x40, .f32⟩
  | 108 => ⟨S_, .f32⟩
  | 109 => ⟨S2x57x40, .f32⟩
  | 110 => ⟨S2x57x40, .f32⟩
  | 111 => ⟨S2x57x40x1, .f32⟩
  | 112 => ⟨S1x1x1x253, .f32⟩
  | 113 => ⟨S2x57x40x253, .f32⟩
  | 114 => ⟨S2x57x40x253, .f32⟩
  | 115 => ⟨S2x57x40x253, .i1⟩
  | 116 => ⟨S_, .f32⟩
  | 117 => ⟨S_, .f32⟩
  | 118 => ⟨S2x57x40x253, .f32⟩
  | 119 => ⟨S2x57x40x253, .f32⟩
  | 120 => ⟨S2x57x40x253, .f32⟩
  | 121 => ⟨S_, .f32⟩
  | 122 => ⟨S2x57x40, .f32⟩
  | 123 => ⟨S_, .f32⟩
  | 124 => ⟨S2x57x40, .f32⟩
  | 125 => ⟨S2x57x40, .i1⟩
  | 126 => ⟨S_, .f32⟩
  | 127 => ⟨S_, .f32⟩
  | _ => ⟨S2, .i32⟩

abbrev hbmTy0_1 (i : Nat) : BufTy := match i % 128 with
  | 0 => ⟨S2x57x40, .f32⟩
  | 1 => ⟨S2x57x40, .f32⟩
  | 2 => ⟨S_, .f32⟩
  | 3 => ⟨S2x57x40, .f32⟩
  | 4 => ⟨S2x57x40, .f32⟩
  | 5 => ⟨S2x57x1x40x1, .f32⟩
  | 6 => ⟨S2x57x1024x40x16, .f32⟩
  | 7 => ⟨S2x57x1024x40x16, .f32⟩
  | 8 => ⟨S_, .f32⟩
  | 9 => ⟨S_, .f32⟩
  | 10 => ⟨S_, .f32⟩
  | 11 => ⟨S2x57x1024x40x16, .f32⟩
  | 12 => ⟨S2x57x1024x40x16, .f32⟩
  | 13 => ⟨S_, .f32⟩
  | 14 => ⟨S2x57x1024x40x16, .f32⟩
  | 15 => ⟨S2x57x1024x40x16, .f32⟩
  | 16 => ⟨S2x57x40x16x1024, .f32⟩
  | 17 => ⟨S1x58368x1, .i1⟩
  | 18 => ⟨S2x58368x640, .bf16⟩
  | 19 => ⟨S2x58368x640, .f32⟩
  | 20 => ⟨S_, .f32⟩
  | 21 => ⟨S_, .f32⟩
  | 22 => ⟨S2x58368x640, .i1⟩
  | 23 => ⟨S2x58368x640, .f32⟩
  | 24 => ⟨S2x58368x640, .f32⟩
  | 25 => ⟨S2x57x1024x40x16, .f32⟩
  | 26 => ⟨S2x57x1024x1x1, .i1⟩
  | 27 => ⟨S2x57x1024x40x16, .f32⟩
  | 28 => ⟨S_, .f32⟩
  | 29 => ⟨S_, .f32⟩
  | 30 => ⟨S2x57x1024x40x16, .i1⟩
  | 31 => ⟨S2x57x1024x40x16, .f32⟩
  | 32 => ⟨S2x57x1024x40x16, .f32⟩
  | 33 => ⟨S_, .f32⟩
  | 34 => ⟨S2x57x40, .f32⟩
  | 35 => ⟨S_, .f32⟩
  | 36 => ⟨S2x57x40, .f32⟩
  | 37 => ⟨S2x57x40, .f32⟩
  | 38 => ⟨S2x57x40x1, .f32⟩
  | 39 => ⟨S1x1x1x253, .f32⟩
  | 40 => ⟨S2x57x40x253, .f32⟩
  | 41 => ⟨S2x57x40x253, .f32⟩
  | 42 => ⟨S2x57x40x253, .i1⟩
  | 43 => ⟨S_, .f32⟩
  | 44 => ⟨S_, .f32⟩
  | 45 => ⟨S2x57x40x253, .f32⟩
  | 46 => ⟨S2x57x40x253, .f32⟩
  | 47 => ⟨S2x57x40x253, .f32⟩
  | 48 => ⟨S_, .f32⟩
  | 49 => ⟨S2x57x40, .f32⟩
  | 50 => ⟨S_, .f32⟩
  | 51 => ⟨S2x57x40, .f32⟩
  | 52 => ⟨S2x57x40, .i1⟩
  | 53 => ⟨S_, .f32⟩
  | 54 => ⟨S_, .f32⟩
  | 55 => ⟨S2x57x40, .f32⟩
  | 56 => ⟨S2x57x40, .f32⟩
  | 57 => ⟨S_, .f32⟩
  | 58 => ⟨S2x57x40, .f32⟩
  | 59 => ⟨S2x57x40, .f32⟩
  | 60 => ⟨S2x57x1x40x1, .f32⟩
  | 61 => ⟨S2x57x1024x40x16, .f32⟩
  | 62 => ⟨S2x57x1024x40x16, .f32⟩
  | 63 => ⟨S_, .f32⟩
  | 64 => ⟨S_, .f32⟩
  | 65 => ⟨S_, .f32⟩
  | 66 => ⟨S2x57x1024x40x16, .f32⟩
  | 67 => ⟨S2x57x1024x40x16, .f32⟩
  | 68 => ⟨S_, .f32⟩
  | 69 => ⟨S2x57x1024x40x16, .f32⟩
  | 70 => ⟨S2x57x1024x40x16, .f32⟩
  | 71 => ⟨S2x57x40x16x1024, .f32⟩
  | 72 => ⟨S2x57x40x16x1024, .fp8e4m3⟩
  | 73 => ⟨S2x57x40x16x1024, .fp8e4m3⟩
  | 74 => ⟨S2x57x40x16x1024, .fp8e4m3⟩
  | 75 => ⟨S2x57x40x16x1024, .bf16⟩
  | 76 => ⟨S2x57x40x16x1024, .bf16⟩
  | 77 => ⟨S2x57x40x16x1024, .bf16⟩
  | 78 => ⟨S2x57x40x1024x1024, .f32⟩
  | 79 => ⟨S2x57x40, .f32⟩
  | 80 => ⟨S_, .f32⟩
  | 81 => ⟨S2x57x40, .f32⟩
  | 82 => ⟨S2x57x40, .f32⟩
  | 83 => ⟨S2x57x40x1x1, .f32⟩
  | 84 => ⟨S2x57x40x1024x1024, .f32⟩
  | 85 => ⟨S2x57x40x1024x1024, .f32⟩
  | 86 => ⟨S2x57x1x1x1024, .i1⟩
  | 87 => ⟨S_, .f32⟩
  | 88 => ⟨S_, .f32⟩
  | 89 => ⟨S2x57x40x1024x1024, .i1⟩
  | 90 => ⟨S2x57x40x1024x1024, .f32⟩
  | 91 => ⟨S2x57x40x1024x1024, .f32⟩
  | 92 => ⟨S_, .f32⟩
  | 93 => ⟨S2x57x40x1024, .f32⟩
  | 94 => ⟨S_, .f32⟩
  | 95 => ⟨S2x57x40x1024, .f32⟩
  | 96 => ⟨S2x57x40x1024, .f32⟩
  | 97 => ⟨S2x57x40x1024x1, .f32⟩
  | 98 => ⟨S2x57x40x1024x1024, .f32⟩
  | 99 => ⟨S2x57x40x1024x1024, .f32⟩
  | 100 => ⟨S2x57x40x1024x1024, .f32⟩
  | 101 => ⟨S_, .f32⟩
  | 102 => ⟨S2x57x40x1024, .f32⟩
  | 103 => ⟨S2x57x40x1024x1, .f32⟩
  | 104 => ⟨S2x57x40x1024x1024, .f32⟩
  | 105 => ⟨S2x57x40x1024x1024, .f32⟩
  | 106 => ⟨S2x57x40x1024x1024, .bf16⟩
  | 107 => ⟨S2x57x40x1024x16, .f32⟩
  | 108 => ⟨S2x57x40x1x1, .f32⟩
  | 109 => ⟨S2x57x40x1024x16, .f32⟩
  | 110 => ⟨S2x57x40x1024x16, .f32⟩
  | 111 => ⟨S2x57x1x1024x1, .i1⟩
  | 112 => ⟨S_, .f32⟩
  | 113 => ⟨S_, .f32⟩
  | 114 => ⟨S2x57x40x1024x16, .i1⟩
  | 115 => ⟨S2x57x40x1024x16, .f32⟩
  | 116 => ⟨S2x57x40x1024x16, .f32⟩
  | 117 => ⟨S2x57x1024x40x16, .f32⟩
  | 118 => ⟨S116736x640, .f32⟩
  | 119 => ⟨S116736x640, .bf16⟩
  | 120 => ⟨S2x57x1x40, .f32⟩
  | 121 => ⟨S2x57x1x40, .f32⟩
  | 122 => ⟨S2x57x1x40, .f32⟩
  | 123 => ⟨S2x57x1x40, .f32⟩
  | 124 => ⟨S2x57x1x40, .f32⟩
  | 125 => ⟨S2x57x1x40, .f32⟩
  | 126 => ⟨S2x57x1x40, .f32⟩
  | 127 => ⟨S2x57x1x40, .f32⟩
  | _ => ⟨S2, .i32⟩

abbrev hbmTy0_2 (i : Nat) : BufTy := match i % 128 with
  | 0 => ⟨S2x57x8x40, .f32⟩
  | 1 => ⟨S2x57x8x40x16, .f32⟩
  | 2 => ⟨S2x57x8x640, .f32⟩
  | _ => ⟨S2, .i32⟩

abbrev hbmTy (i : Nat) : BufTy := match i / 128 with
  | 0 => hbmTy0_0 i
  | 1 => hbmTy0_1 i
  | 2 => hbmTy0_2 i
  | _ => ⟨S2, .i32⟩

abbrev bufTy : (tb : Table) → Fin (tcTables nBuf tb) → BufTy
  | .hbm, ⟨i, _⟩ => hbmTy i
  | .local _ .vmem, ⟨0, _⟩ => ⟨S2x57x40x16x1024, .f32⟩
  | .local _ .vmem, ⟨1, _⟩ => ⟨S2x57x40x16x1024, .f32⟩
  | .local _ .vmem, ⟨2, _⟩ => ⟨S2x57x40x16x1024, .f32⟩
  | .local _ .vmem, ⟨3, _⟩ => ⟨S2x57x40x16x1024, .fp8e4m3⟩
  | .local _ .vmem, ⟨4, _⟩ => ⟨S2x57x40x16x1024, .fp8e4m3⟩
  | .local _ .vmem, ⟨5, _⟩ => ⟨S2x57x40x16x1024, .fp8e4m3⟩
  | .local _ .vmem, ⟨6, _⟩ => ⟨S2x57x40x16x1024, .bf16⟩
  | .local _ .vmem, ⟨7, _⟩ => ⟨S2x57x40x16x1024, .bf16⟩
  | .local _ .vmem, ⟨8, _⟩ => ⟨S2x57x40x16x1024, .bf16⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_call3_v0 : Ref sig .tc := ⟨.hbm, 72, rfl⟩
abbrev main_call3_v1 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_cst_14 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_16 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v60 : Ref sig .tc := ⟨.hbm, 105, rfl⟩
abbrev main_cst_17 : Ref sig .tc := ⟨.hbm, 106, rfl⟩
abbrev main_v61 : Ref sig .tc := ⟨.hbm, 107, rfl⟩
abbrev main_cst_18 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_19 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_v69 : Ref sig .tc := ⟨.hbm, 120, rfl⟩
abbrev main_cst_20 : Ref sig .tc := ⟨.hbm, 121, rfl⟩
abbrev main_v70 : Ref sig .tc := ⟨.hbm, 122, rfl⟩
abbrev main_cst_21 : Ref sig .tc := ⟨.hbm, 123, rfl⟩
abbrev main_v71 : Ref sig .tc := ⟨.hbm, 124, rfl⟩
abbrev main_v72 : Ref sig .tc := ⟨.hbm, 125, rfl⟩
abbrev main_cst_22 : Ref sig .tc := ⟨.hbm, 126, rfl⟩
abbrev main_call8_v0 : Ref sig .tc := ⟨.hbm, 127, rfl⟩
abbrev main_call8_v1 : Ref sig .tc := ⟨.hbm, 128, rfl⟩
abbrev main_v73 : Ref sig .tc := ⟨.hbm, 129, rfl⟩
abbrev main_cst_23 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_24 : Ref sig .tc := ⟨.hbm, 136, rfl⟩
abbrev main_cst_25 : Ref sig .tc := ⟨.hbm, 137, rfl⟩
abbrev main_call9_v0 : Ref sig .tc := ⟨.hbm, 138, rfl⟩
abbrev main_call9_v1 : Ref sig .tc := ⟨.hbm, 139, rfl⟩
abbrev main_call9_v2 : Ref sig .tc := ⟨.hbm, 140, rfl⟩
abbrev main_call9_v3 : Ref sig .tc := ⟨.hbm, 141, rfl⟩
abbrev main_call9_v4 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_call10_v0 : Ref sig .tc := ⟨.hbm, 149, rfl⟩
abbrev main_call10_v1 : Ref sig .tc := ⟨.hbm, 150, rfl⟩
abbrev main_call10_v2 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_27 : Ref sig .tc := ⟨.hbm, 156, rfl⟩
abbrev main_call11_v0 : Ref sig .tc := ⟨.hbm, 157, rfl⟩
abbrev main_call11_v1 : Ref sig .tc := ⟨.hbm, 158, rfl⟩
abbrev main_call11_v2 : Ref sig .tc := ⟨.hbm, 159, rfl⟩
abbrev main_v88 : Ref sig .tc := ⟨.hbm, 160, rfl⟩
abbrev main_cst_28 : Ref sig .tc := ⟨.hbm, 161, rfl⟩
abbrev main_v89 : Ref sig .tc := ⟨.hbm, 162, rfl⟩
abbrev main_cst_29 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_30 : Ref sig .tc := ⟨.hbm, 171, rfl⟩
abbrev main_call12_v0 : Ref sig .tc := ⟨.hbm, 172, rfl⟩
abbrev main_call12_v1 : Ref sig .tc := ⟨.hbm, 173, rfl⟩
abbrev main_call12_v2 : Ref sig .tc := ⟨.hbm, 174, rfl⟩
abbrev main_v97 : Ref sig .tc := ⟨.hbm, 175, rfl⟩
abbrev main_cst_31 : Ref sig .tc := ⟨.hbm, 176, rfl⟩
abbrev main_v98 : Ref sig .tc := ⟨.hbm, 177, rfl⟩
abbrev main_cst_32 : Ref sig .tc := ⟨.hbm, 178, rfl⟩
abbrev main_v99 : Ref sig .tc := ⟨.hbm, 179, rfl⟩
abbrev main_v100 : Ref sig .tc := ⟨.hbm, 180, rfl⟩
abbrev main_cst_33 : Ref sig .tc := ⟨.hbm, 181, rfl⟩
abbrev main_call13_v0 : Ref sig .tc := ⟨.hbm, 182, rfl⟩
abbrev main_call13_v1 : Ref sig .tc := ⟨.hbm, 183, rfl⟩
abbrev main_v101 : Ref sig .tc := ⟨.hbm, 184, rfl⟩
abbrev main_cst_34 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_35 : Ref sig .tc := ⟨.hbm, 191, rfl⟩
abbrev main_cst_36 : Ref sig .tc := ⟨.hbm, 192, rfl⟩
abbrev main_call14_v0 : Ref sig .tc := ⟨.hbm, 193, rfl⟩
abbrev main_call14_v1 : Ref sig .tc := ⟨.hbm, 194, rfl⟩
abbrev main_call14_v2 : Ref sig .tc := ⟨.hbm, 195, rfl⟩
abbrev main_call14_v3 : Ref sig .tc := ⟨.hbm, 196, rfl⟩
abbrev main_call14_v4 : Ref sig .tc := ⟨.hbm, 197, rfl⟩
abbrev main_v107 : Ref sig .tc := ⟨.hbm, 198, rfl⟩
abbrev main_v108 : Ref sig .tc := ⟨.hbm, 199, rfl⟩
abbrev main_v109_0 : Ref sig .tc := ⟨.hbm, 200, rfl⟩
abbrev main_v109_1 : Ref sig .tc := ⟨.hbm, 201, rfl⟩
abbrev main_v109_2 : Ref sig .tc := ⟨.hbm, 202, rfl⟩
abbrev main_v109_3 : Ref sig .tc := ⟨.hbm, 203, rfl⟩
abbrev main_v109_4 : Ref sig .tc := ⟨.hbm, 204, rfl⟩
abbrev main_v109_5 : Ref sig .tc := ⟨.hbm, 205, rfl⟩
abbrev main_v110 : Ref sig .tc := ⟨.hbm, 206, rfl⟩
abbrev main_v111 : Ref sig .tc := ⟨.hbm, 207, rfl⟩
abbrev main_cst_37 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_cst_38 : Ref sig .tc := ⟨.hbm, 215, rfl⟩
abbrev main_call15_v0 : Ref sig .tc := ⟨.hbm, 216, rfl⟩
abbrev main_call15_v1 : Ref sig .tc := ⟨.hbm, 217, rfl⟩
abbrev main_call15_v2 : Ref sig .tc := ⟨.hbm, 218, rfl⟩
abbrev main_v118 : Ref sig .tc := ⟨.hbm, 219, rfl⟩
abbrev main_cst_39 : Ref sig .tc := ⟨.hbm, 220, rfl⟩
abbrev main_v119 : Ref sig .tc := ⟨.hbm, 221, rfl⟩
abbrev main_cst_40 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_cst_41 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_cst_42 : Ref sig .tc := ⟨.hbm, 240, rfl⟩
abbrev main_call16_v0 : Ref sig .tc := ⟨.hbm, 241, rfl⟩
abbrev main_call16_v1 : Ref sig .tc := ⟨.hbm, 242, rfl⟩
abbrev main_call16_v2 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x57x40x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x57x40x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x57x40x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x57x40x16x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x57x40x16x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x57x40x16x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x57x40x16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x57x40x16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x57x40x16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KLaunch.lean ====
/- The kernel's pipeline on any contents of its prefetched table `n_points`: what the region is launched on, the
   blocks its windows stage, and the branch conditions of one grid point.

   Window 7, the attention output, is stored under `pl.when(has_valid)` or under its negation, so one of the two
   stores always runs: `idle7` says the pipeline never finds the window idle, whatever the table holds. -/
module

public import proofs.«01_k».proof.Proof.Gen.Kernel.Launch
public import proofs.«01_k».proof.Proof.Gen.Kernel.Loops
public import proofs.«01_k».proof.Proof.Gen.Kernel.Skeleton
public import proofs.«01_k».proof.Proof.Gen.Kernel
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it holds of every table here. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 114 = 0 :=
  (fun t => by
    have ht : t.val < 114 := Nat.lt_of_lt_of_eq t.isLt N_0
    have e0 : (grid0.coords t 0).val = t.val / 2 % 57 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 114 = 0)

/-- The word of the table that point `i` reads: the number of points of its batch row. -/
abbrev word (i : grid0.Coords) (c : Dev nD) (xt0 : TbBuf0 (F := F) c tbM0_0) : BitVec 32 :=
  tbM0_0.view.readAt (Elt F) (Rect.unit (s := S2) (k0_off1 i) S1.size (k0_off1_inb i)).toLoadRect xt0 (Shape.Idx.first (numel1_S1.symm ▸ Nat.one_pos))

/-- The second `pl.when` is the negation of the first. -/
theorem cond3_iff (i : grid0.Coords) (v : BitVec 32) : k0_cond3 i v = 1#1 ↔ ¬ k0_cond2 i v = 1#1 := by
  unfold k0_cond3 k0_cond2
  dsimp only [Scalar.muli, Scalar.subi]
  generalize Scalar.cmpi .slt _ v = w
  revert w; decide

/-- No point is idle for window 7: one of its two stores runs. -/
theorem idle7 (pf : pre0.Contents (Elt F)) (i : grid0.Coords) : idle0 pf 7 i = false := by
  show (!(k0_cond2 i (pf.atD 0 (k0_off1 i)) == 1#1) && !(k0_cond3 i (pf.atD 0 (k0_off1 i)) == 1#1)) = false
  have h := cond3_iff i (pf.atD 0 (k0_off1 i))
  by_cases hc : k0_cond2 i (pf.atD 0 (k0_off1 i)) = 1#1
  · simp [hc]
  · simp [h.mpr hc]

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x640 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x640 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x640 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x40x16x1024 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x40x16x1024 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x40x16x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x8x640 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x640 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S40x128x1024 .fp8e4m3 := Memref.whole cc0_scratch0
abbrev scM0_1 : Memref sig .tc .vmem S1024x640 .fp8e4m3 := Memref.whole cc0_scratch1
abbrev scM0_2 : Memref sig .tc .vmem S640x1024 .bf16 := Memref.whole cc0_scratch2
abbrev scM0_3 : Memref sig .tc .vmem S640x1024 .f32 := Memref.whole cc0_scratch3
abbrev scM0_4 : Memref sig .tc .vmem S640x128 .f32 := Memref.whole cc0_scratch4
abbrev scM0_5 : Memref sig .tc .vmem S640x128 .f32 := Memref.whole cc0_scratch5
/-- The scratch `arg11` the kernel carries between points, as a view: what it holds is stated through it. -/
abbrev VS0_0 : View sig .tc .vmem S40x128x1024 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_patch_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Hand

end
-- ==== Proof.KRunA.lean ====
/- One grid point of the kernel, on whole staging memrefs and scratch at any contents: it runs to its end, gives the three
   input blocks back as it found them and every other buffer at some contents. One statement per case of its two
   conditions (the first point of the grid or not, the patch with valid rows or without). -/
module

public import proofs.«01_k».proof.Proof.KLaunch

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of the grid, its patch with a valid row. -/
theorem run_first_valid (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : cond0_0 i) (hc2 : k0_cond2 i (word i c xt0) = 1#1) (hc3 : ¬ k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

set_option maxHeartbeats 4000000 in
/-- The first point of the grid, its patch without a valid row. -/
theorem run_first_idle (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : cond0_0 i) (hc2 : ¬ k0_cond2 i (word i c xt0) = 1#1) (hc3 : k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

end Cert.Kernel.Hand

end
-- ==== Proof.KRunB.lean ====
/- One grid point of the kernel, on whole staging memrefs and scratch at any contents: it runs to its end, gives the three
   input blocks back as it found them and every other buffer at some contents. One statement per case of its two
   conditions (the first point of the grid or not, the patch with valid rows or without). -/
module

public import proofs.«01_k».proof.Proof.KRunA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later point, its patch with a valid row. -/
theorem run_later_valid (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : ¬ cond0_0 i) (hc2 : k0_cond2 i (word i c xt0) = 1#1) (hc3 : ¬ k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

set_option maxHeartbeats 4000000 in
/-- A later point, its patch without a valid row. -/
theorem run_later_idle (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : ¬ cond0_0 i) (hc2 : ¬ k0_cond2 i (word i c xt0) = 1#1) (hc3 : k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

end Cert.Kernel.Hand

end
-- ==== Proof.KFrame.lean ====
/- The frame of the kernel: every fair execution ends, with the four arguments unchanged and every semaphore counter at
   zero. Nothing is said here of what the outputs hold, so windows 3 to 7 are forgotten; the invariant between points is
   the scratch at some contents. -/
module

public import proofs.«01_k».proof.Proof.KRunB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents the frame says nothing. -/
def forgets0 : Fin 8 → Bool := fun w => w.val == 3 || w.val == 4 || w.val == 5 || w.val == 6 || w.val == 7

/-- The proof data: the arrays as launched, each input's block left in place, the outputs unnamed, and between points the
    scratch at some contents with the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

set_option maxHeartbeats 4000000 in
/-- The body at any point: one of the four cases of `KRunA`, `KRunB`. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5⟩, Hg⟩, HT0⟩, Ho, ⟨%d0, H0⟩, ⟨%d1, H1⟩, ⟨%d2, H2⟩, H3, H4, H5, H6, H7⟩
  by_cases h0 : cond0_0 (grid0.coords t) <;> by_cases h2 : k0_cond2 (grid0.coords t) (word (grid0.coords t) c (tbl m 0)) = 1#1
  · iapply (run_first_valid c (grid0.coords t) _ _ _ _ _ _ _ _ _ _ _ _ _ _ _ _ _ _ _ _ _ _ _ _ _ _ _ _ (iblk m hO c 0 t) (iblk m hO c 1 t) (iblk m hO c 2 t) (tbl m 0) h0 h2 (fun h => (cond3_iff _ _).mp h h2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (run_first_idle c (grid0.coords t) _ _ _ _ _ _ _ _ _ _ _ _ _ _ _ _ _ _ _ _ _ _ _ _ _ _ _ _ (iblk m hO c 0 t) (iblk m hO c 1 t) (iblk m hO c 2 t) (tbl m 0) h0 h2 ((cond3_iff _ _).mpr h2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (run_later_valid c (grid0.coords t) _ _ _ _ _ _ _ _ _ _ _ _ _ _ _ _ _ _ _ _ _ _ _ _ _ _ _ _ (iblk m hO c 0 t) (iblk m hO c 1 t) (iblk m hO c 2 t) (tbl m 0) h0 h2 (fun h => (cond3_iff _ _).mp h h2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply (run_later_idle c (grid0.coords t) _ _ _ _ _ _ _ _ _ _ _ _ _ _ _ _ _ _ _ _ _ _ _ _ _ _ _ _ (iblk m hO c 0 t) (iblk m hO c 1 t) (iblk m hO c 2 t) (tbl m 0) h0 h2 ((cond3_iff _ _).mpr h2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- After the last point the invariant gives the scratch and the generator register back. -/
theorem hout (hO : Ok m) (c : Dev nD) : (dats m hO 0 c).Φ (Fin.last (cfgM m hO).N) ⊢ Pipeline.ΦA spec0 c := by
  show iprop(Pipeline.ΦA spec0 c ∗ Pipeline.ΦT pre0 (tbl m) c) ⊢ _
  iintro ⟨H, -⟩; iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := fun _ => .rfl) (hout := hout m hO)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- Every fair execution ends, with the arguments as launched and every semaphore counter at zero, for every contents of
    the table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Hand

end
-- ==== Proof.ILaunch.lean ====
/- The kernel's pipeline on any contents of its prefetched table `n_points`: what the region is launched on, the
   blocks its windows stage, and the branch conditions of one grid point.

   Window 7, the attention output, is stored under `pl.when(has_valid)` or under its negation, so one of the two
   stores always runs: `idle7` says the pipeline never finds the window idle, whatever the table holds. -/
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it holds of every table here. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 114 = 0 :=
  (fun t => by
    have ht : t.val < 114 := Nat.lt_of_lt_of_eq t.isLt N_0
    have e0 : (grid0.coords t 0).val = t.val / 2 % 57 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 114 = 0)

/-- The word of the table that point `i` reads: the number of points of its batch row. -/
abbrev word (i : grid0.Coords) (c : Dev nD) (xt0 : TbBuf0 (F := F) c tbM0_0) : BitVec 32 :=
  tbM0_0.view.readAt (Elt F) (Rect.unit (s := S2) (k0_off1 i) S1.size (k0_off1_inb i)).toLoadRect xt0 (Shape.Idx.first (numel1_S1.symm ▸ Nat.one_pos))

/-- The second `pl.when` is the negation of the first. -/
theorem cond3_iff (i : grid0.Coords) (v : BitVec 32) : k0_cond3 i v = 1#1 ↔ ¬ k0_cond2 i v = 1#1 := by
  unfold k0_cond3 k0_cond2
  dsimp only [Scalar.muli, Scalar.subi]
  generalize Scalar.cmpi .slt _ v = w
  revert w; decide

/-- No point is idle for window 7: one of its two stores runs. -/
theorem idle7 (pf : pre0.Contents (Elt F)) (i : grid0.Coords) : idle0 pf 7 i = false := by
  show (!(k0_cond2 i (pf.atD 0 (k0_off1 i)) == 1#1) && !(k0_cond3 i (pf.atD 0 (k0_off1 i)) == 1#1)) = false
  have h := cond3_iff i (pf.atD 0 (k0_off1 i))
  by_cases hc : k0_cond2 i (pf.atD 0 (k0_off1 i)) = 1#1
  · simp [hc]
  · simp [h.mpr hc]

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x640 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x640 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x640 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x40x16x1024 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x40x16x1024 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x40x16x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x8x640 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x640 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S40x128x1024 .fp8e4m3 := Memref.whole cc0_scratch0
abbrev scM0_1 : Memref sig .tc .vmem S1024x640 .fp8e4m3 := Memref.whole cc0_scratch1
abbrev scM0_2 : Memref sig .tc .vmem S640x1024 .bf16 := Memref.whole cc0_scratch2
abbrev scM0_3 : Memref sig .tc .vmem S640x1024 .f32 := Memref.whole cc0_scratch3
abbrev scM0_4 : Memref sig .tc .vmem S640x128 .f32 := Memref.whole cc0_scratch4
abbrev scM0_5 : Memref sig .tc .vmem S640x128 .f32 := Memref.whole cc0_scratch5
/-- The scratch `arg11` the kernel carries between points, as a view: what it holds is stated through it. -/
abbrev VS0_0 : View sig .tc .vmem S40x128x1024 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_patch_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Hand

end
-- ==== Proof.IVal.lean ====
/- What one grid point of the kernel computes from its three input blocks and the number of points of its batch row: the
   codes and scales of q, k and v, the zero-padded copy of q's codes, and the attention output, each as the chain of the
   body's own payloads. -/
module

public import proofs.«01_k».proof.Proof.ILaunch
public import Idealize.ShloMosaic.Lib.Pointwise.Index

@[expose] public section

set_option maxRecDepth 16384

noncomputable section

namespace Cert.KernelIdeal.Hand

open Cert.KernelIdeal.Gen
open Idealize.ShloMosaic Idealize.SL.Sem

variable {F : FTy → Type} [FloatOps F] [Named F]

section Codes

variable (i : grid0.Coords) (n : Elt F .i32) (x : Vec F S1024x640 .bf16)

/-- The lane number of each element. -/
def lanes : IVec S8x640 32 := iota .tc S8x640 32 [1] iota_S8x640_d1_w32

/-- The first row of the patch. -/
def start (i : grid0.Coords) : BitVec 32 := Scalar.subi (Scalar.muli (BitVec.ofNat 32 (i 0).val) 1024#32) 512#32

/-- q: the head maxima over 448, their exponent fields, scales and codes. -/
def qMax : FVec F S8x640 .f32 := k0_pay28 (k0_pay24 i n x) lanes (k0_pay25 i n x) (k0_pay26 i n x) k0_pay27
def qExpo : IVec S8x640 32 :=
  k0_pay31 (qMax i n x) (k0_pay29 (k0_pay24 i n x) lanes (k0_pay25 i n x) (k0_pay26 i n x) k0_pay27)
    (k0_pay30 (k0_pay24 i n x) lanes (k0_pay25 i n x) (k0_pay26 i n x) k0_pay27) 23#32
def qScale : FVec F S8x640 .f32 := k0_pay33 (qExpo i n x) 0#32
def qCode : FVec F S640x1024 .fp8e4m3 := k0_pay34 (k0_pay23 i x) (qExpo i n x) 0#32
def qOut : FVec F S1x1x40x16x1024 .fp8e4m3 := k0_pay35 (k0_pay23 i x) (qExpo i n x) 0#32

/-- k: the same. -/
def kTwo : FVec F S8x640 .f32 := k0_pay80 (k0_pay21 i) (k0_pay22 i n) x
def kMax : FVec F S8x640 .f32 :=
  k0_pay84 lanes (kTwo i n x) (k0_pay81 (k0_pay21 i) (k0_pay22 i n) x) (k0_pay82 (k0_pay21 i) (k0_pay22 i n) x) k0_pay83
def kE4 : IVec S8x640 32 :=
  k0_pay85 lanes (kTwo i n x) (k0_pay81 (k0_pay21 i) (k0_pay22 i n) x) (k0_pay82 (k0_pay21 i) (k0_pay22 i n) x) k0_pay83
def kNext : IVec S8x640 32 :=
  k0_pay86 lanes (kTwo i n x) (k0_pay81 (k0_pay21 i) (k0_pay22 i n) x) (k0_pay82 (k0_pay21 i) (k0_pay22 i n) x) k0_pay83
def kScale : FVec F S8x640 .f32 := k0_pay89 (kMax i n x) (kE4 i n x) (kNext i n x) k0_pay87
def kY : FVec F S1024x640 .f32 := k0_pay90 (k0_pay79 (k0_pay21 i) x) (kMax i n x) (kE4 i n x) (kNext i n x) k0_pay87
def kRow : FVec F S1024x640 .fp8e4m3 := k0_pay92 (kY i n x)
def kOut : FVec F S1x1x40x16x1024 .fp8e4m3 := k0_pay93 (kY i n x)

/-- v: the same. -/
def vTwo : FVec F S8x640 .f32 := k0_pay95 (k0_pay21 i) (k0_pay22 i n) x
def vRot : FVec F S8x640 .f32 := k0_pay96 (k0_pay21 i) (k0_pay22 i n) x
def vMax : FVec F S8x640 .f32 := k0_pay97 lanes (vTwo i n x) (vRot i n x) 2#32
def vE : IVec S8x640 32 :=
  k0_pay100 (vMax i n x) (k0_pay98 lanes (vTwo i n x) (vRot i n x) 2#32) (k0_pay99 lanes (vTwo i n x) (vRot i n x) 2#32) 23#32
def vScale : FVec F S8x640 .f32 := k0_pay101 (vE i n x) 127#32
def vOut : FVec F S1x1x40x16x1024 .fp8e4m3 := k0_pay103 (k0_pay94 (k0_pay21 i) x) (vE i n x)
def vT : FVec F S640x1024 .bf16 := k0_pay104 (k0_pay94 (k0_pay21 i) x) (vE i n x)

end Codes

/-- The band of 16 rows, among a head group's 128, that belongs to head `h`. -/
abbrev inBand (h r : ℕ) : Prop := 16 * (h % 8) ≤ r ∧ r < 16 * (h % 8) + 16

/-- q's codes, each head's 16 rows at its place among its group's 128 and the rest zero. -/
def qzOf (y : FVec F S640x1024 .fp8e4m3) : FVec F S40x128x1024 .fp8e4m3 := fun j =>
  if inBand (j 0).val (j 1).val then
    y (ix2 ⟨128 * ((j 0).val / 8) + (j 1).val, by
      have h0 : (j 0).val < 40 := (j 0).isLt
      have h1 : (j 1).val < 128 := (j 1).isLt
      omega⟩ (j 2))
  else Scalar.ofBits .fp8e4m3 0x00#8

/-- What the scratch must hold off the bands. -/
def OffZero (d : FVec F S40x128x1024 .fp8e4m3) : Prop :=
  ∀ j, ¬ inBand (j 0).val (j 1).val → d j = Scalar.ofBits .fp8e4m3 0x00#8

theorem offZero_qzOf (y : FVec F S640x1024 .fp8e4m3) : OffZero (qzOf y) := fun j h => if_neg h

section Head

variable (n : Elt F .i32) (v3 : BitVec 32) (v21 : IVec S1024x1 1) (Xq : FVec F S40x128x1024 .fp8e4m3) (Xk : FVec F S1024x640 .fp8e4m3)
  (Xv : FVec F S640x1024 .bf16) (Xc Xs : FVec F S640x128 .f32) (k : Fin k0_t1_loop.trips)

/-- What head `k` reads. -/
def hk : Vec F S1024x128 .fp8e4m3 := fun y => Xk ((Rect.unit (s := S1024x640) (k0_off2 k) S1024x128.size (k0_off2_inb k)).emb y)
def hv : Vec F S16x1024 .bf16 := fun y => Xv ((Rect.unit (s := S640x1024) (k0_off3 k) S16x1024.size (k0_off3_inb k)).emb y)
def hc (X : FVec F S640x128 .f32) (k : Fin k0_t1_loop.trips) : Vec F S16x128 .f32 :=
  fun y => X ((Rect.unit (s := S640x128) (k0_off4 k) S16x128.size (k0_off4_inb k)).emb y)
def hq0 : Vec F S1x128x256 .fp8e4m3 := fun y => Xq ((Rect.unit (s := S40x128x1024) (k0_off5 k) S1x128x256.size (k0_off5_inb k)).emb y)
def hq1 : Vec F S1x128x256 .fp8e4m3 := fun y => Xq ((Rect.unit (s := S40x128x1024) (k0_off7 k) S1x128x256.size (k0_off7_inb k)).emb y)
def hq2 : Vec F S1x128x256 .fp8e4m3 := fun y => Xq ((Rect.unit (s := S40x128x1024) (k0_off9 k) S1x128x256.size (k0_off9_inb k)).emb y)
def hq3 : Vec F S1x128x256 .fp8e4m3 := fun y => Xq ((Rect.unit (s := S40x128x1024) (k0_off11 k) S1x128x256.size (k0_off11_inb k)).emb y)

/-- What head `k` stores, one block of 256 queries at a time. -/
def o0 : FVec F S16x256 .f32 :=
  k0_pay10 n v21 (k0_pay3 v3) (hk Xk k) (hv Xv k) (k0_pay7 (hc Xc k)) (k0_pay8 (hc Xs k)) (k0_pay9 (hq0 Xq k))
def o1 : FVec F S16x256 .f32 :=
  k0_pay13 n (k0_pay3 v3) (hv Xv k) (k0_pay8 (hc Xs k)) (k0_pay11 (hk Xk k) (k0_pay7 (hc Xc k)) (hq1 Xq k))
    (Named.named κ "mask" 0xF149F2CA#32) (k0_pay12 v21)
def o2 : FVec F S16x256 .f32 :=
  k0_pay15 n (k0_pay3 v3) (hv Xv k) (k0_pay8 (hc Xs k)) (k0_pay14 v21 (hk Xk k) (k0_pay7 (hc Xc k)) (hq2 Xq k))
def o3 : FVec F S16x256 .f32 :=
  k0_pay4 n v3 (k0_pay8 (hc Xs k)) (k0_pay17 v21 (hk Xk k) (k0_pay7 (hc Xc k)) (hq3 Xq k))
    (k0_pay18 v21 (hk Xk k) (hv Xv k) (k0_pay7 (hc Xc k)) (hq3 Xq k))

theorem trips_eq : k0_t1_loop.trips = 40 := by decide +kernel

/-- Head `k`'s row of the transposed output: the block its column lies in. -/
def oAt (a : Fin 16) (b : Fin 1024) : F .f32 :=
  if h0 : b.val < 256 then o0 n v3 v21 Xq Xk Xv Xc Xs k (ix2 a ⟨b.val, h0⟩)
  else if h1 : b.val < 512 then o1 n v3 v21 Xq Xk Xv Xc Xs k (ix2 a ⟨b.val - 256, by omega⟩)
  else if h2 : b.val < 768 then o2 n v3 v21 Xq Xk Xv Xc Xs k (ix2 a ⟨b.val - 512, by omega⟩)
  else o3 n v3 v21 Xq Xk Xv Xc Xs k (ix2 a ⟨b.val - 768, by omega⟩)

/-- The transposed output of all heads. -/
def OT : FVec F S640x1024 .f32 := fun j =>
  oAt n v3 v21 Xq Xk Xv Xc Xs ⟨(j 0).val / 16, by
    have h0 : (j 0).val < 640 := (j 0).isLt
    rw [trips_eq]; omega⟩ ⟨(j 0).val % 16, by omega⟩ (j 1)

end Head

section Out

variable (i : grid0.Coords) (n : Elt F .i32) (x0 x1 x2 : Vec F S1024x640 .bf16)

/-- The block of scales. -/
def scOut : FVec F S1x1x8x640 .f32 := k0_pay105 (qScale i n x0) (kScale i n x1) (vE i n x2) 127#32

/-- The attention output of a patch with a valid row. -/
def attnOut : FVec F S1024x640 .bf16 :=
  k0_pay5 (OT n (start i) (k0_pay22 i n) (qzOf (qCode i n x0)) (kRow i n x1) (vT i n x2)
    (k0_pay1 (qScale i n x0) (kScale i n x1)) (k0_pay2 (vScale i n x2)))

/-- The attention output block. -/
def oOut : FVec F S1024x640 .bf16 := if k0_cond2 i n = 1#1 then attnOut i n x0 x1 x2 else k0_pay6

end Out

end Cert.KernelIdeal.Hand

end
-- ==== Proof.ILoop.lean ====
/- The kernel's loop over the 40 heads, with what it computes: before head `k` the rows of the heads before it hold those
   heads' transposed outputs. -/
module

public import proofs.«01_k».proof.Proof.IVal
public import Idealize.ShloMosaic.Lib.WritesUnit
public import Idealize.ShloMosaic.Lib.Pointwise.Sums

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the five buffers a head reads hold, throughout the loop, and what the output scratch holds before head `k`. -/
abbrev headInv (c : Dev nD) (n : Elt F .i32) (v3 : BitVec 32) (v21 : IVec S1024x1 1)
    (arg11 : Memref sig .tc .vmem S40x128x1024 .fp8e4m3) (arg12 : Memref sig .tc .vmem S1024x640 .fp8e4m3) (arg13 : Memref sig .tc .vmem S640x1024 .bf16) (arg14 : Memref sig .tc .vmem S640x1024 .f32) (arg15 : Memref sig .tc .vmem S640x128 .f32) (arg16 : Memref sig .tc .vmem S640x128 .f32)
    (X11 : BufTy.Contents (Elt F) arg11.view.ty) (X12 : BufTy.Contents (Elt F) arg12.view.ty) (X13 : BufTy.Contents (Elt F) arg13.view.ty) (X15 : BufTy.Contents (Elt F) arg15.view.ty) (X16 : BufTy.Contents (Elt F) arg16.view.ty) (k : ℕ) (_u : PUnit) : sProp 𝕄 :=
  iprop((arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg15.view.loc (c : Thread nD τ) ↦[arg15.view.set]{fullShare} X15) ∗ (arg16.view.loc (c : Thread nD τ) ↦[arg16.view.set]{fullShare} X16)
    ∗ (∃ f, (arg14.view.loc (c : Thread nD τ) ↦[arg14.view.set]{fullShare} f) ∗ ⌜∀ (a : Fin 640) (b : Fin 1024), a.val < 16 * k →
        arg14.view.read (Elt F) f (ix2 a b) = OT n v3 v21 (arg11.view.read (Elt F) X11) (arg12.view.read (Elt F) X12) (arg13.view.read (Elt F) X13) (arg15.view.read (Elt F) X15) (arg16.view.read (Elt F) X16) (ix2 a b)⌝))

/-- The four stores of head `k` fill its 16 rows and leave the other rows alone. -/
theorem head_rows (v : View sig .tc .vmem S640x1024 .f32) (f : v.ty.Contents (Elt F)) (n : Elt F .i32) (v3 : BitVec 32) (v21 : IVec S1024x1 1)
    (Xq : FVec F S40x128x1024 .fp8e4m3) (Xk : FVec F S1024x640 .fp8e4m3) (Xv : FVec F S640x1024 .bf16) (Xc Xs : FVec F S640x128 .f32)
    (k : Fin k0_t1_loop.trips) (h : ∀ (a : Fin 640) (b : Fin 1024), a.val < 16 * k.val → v.read (Elt F) f (ix2 a b) = OT n v3 v21 Xq Xk Xv Xc Xs (ix2 a b))
    (a : Fin 640) (b : Fin 1024) (ha : a.val < 16 * (k.val + 1)) :
    v.read (Elt F) (v.writes (Elt F) f
      [⟨Rect.unit (s := S640x1024) (k0_off12 k) S16x256.size (k0_off12_inb k), o3 n v3 v21 Xq Xk Xv Xc Xs k⟩,
       ⟨Rect.unit (s := S640x1024) (k0_off10 k) S16x256.size (k0_off10_inb k), o2 n v3 v21 Xq Xk Xv Xc Xs k⟩,
       ⟨Rect.unit (s := S640x1024) (k0_off8 k) S16x256.size (k0_off8_inb k), o1 n v3 v21 Xq Xk Xv Xc Xs k⟩,
       ⟨Rect.unit (s := S640x1024) (k0_off6 k) S16x256.size (k0_off6_inb k), o0 n v3 v21 Xq Xk Xv Xc Xs k⟩]) (ix2 a b)
      = OT n v3 v21 Xq Xk Xv Xc Xs (ix2 a b) := by
  by_cases hlt : a.val < 16 * k.val
  · rw [View.read_writes_cons_unit_of_not_mem v f _ _ _ _ (k0_off12_eq k) 0 (Or.inl hlt),
      View.read_writes_cons_unit_of_not_mem v f _ _ _ _ (k0_off10_eq k) 0 (Or.inl hlt),
      View.read_writes_cons_unit_of_not_mem v f _ _ _ _ (k0_off8_eq k) 0 (Or.inl hlt),
      View.read_writes_cons_unit_of_not_mem v f _ _ _ _ (k0_off6_eq k) 0 (Or.inl hlt)]
    exact h a b hlt
  · have hq : a.val / 16 = k.val := by omega
    have hm : a.val = 16 * k.val + a.val % 16 := by omega
    have hb := b.isLt
    have hOT : OT n v3 v21 Xq Xk Xv Xc Xs (ix2 a b) = oAt n v3 v21 Xq Xk Xv Xc Xs k ⟨a.val % 16, by omega⟩ b := by
      have : (⟨a.val / 16, by rw [hq]; exact k.isLt⟩ : Fin k0_t1_loop.trips) = k := Fin.ext hq
      show oAt n v3 v21 Xq Xk Xv Xc Xs ⟨a.val / 16, _⟩ ⟨a.val % 16, _⟩ b = _
      simp only [this]
    rw [hOT]; unfold oAt
    by_cases h0 : b.val < 256
    · rw [View.read_writes_cons_unit_of_not_mem v f _ _ _ _ (k0_off12_eq k) 1 (Or.inl (by show b.val < 768; omega)),
        View.read_writes_cons_unit_of_not_mem v f _ _ _ _ (k0_off10_eq k) 1 (Or.inl (by show b.val < 512; omega)),
        View.read_writes_cons_unit_of_not_mem v f _ _ _ _ (k0_off8_eq k) 1 (Or.inl (by show b.val < 256; omega)), dif_pos h0]
      exact View.read_writes_cons_unit_of_mem v f _ _ _ _ (ix2 (n0 := 16) (n1 := 256) ⟨a.val % 16, by omega⟩ ⟨b.val, h0⟩) (k0_off6_eq k)
        (Fin.forall_fin_two.mpr ⟨hm, by show b.val = 0 + b.val; omega⟩)
    rw [dif_neg h0]
    by_cases h1 : b.val < 512
    · rw [View.read_writes_cons_unit_of_not_mem v f _ _ _ _ (k0_off12_eq k) 1 (Or.inl (by show b.val < 768; omega)),
        View.read_writes_cons_unit_of_not_mem v f _ _ _ _ (k0_off10_eq k) 1 (Or.inl (by show b.val < 512; omega)), dif_pos h1]
      exact View.read_writes_cons_unit_of_mem v f _ _ _ _ (ix2 (n0 := 16) (n1 := 256) ⟨a.val % 16, by omega⟩ ⟨b.val - 256, by omega⟩) (k0_off8_eq k)
        (Fin.forall_fin_two.mpr ⟨hm, by show b.val = 256 + (b.val - 256); omega⟩)
    rw [dif_neg h1]
    by_cases h2 : b.val < 768
    · rw [View.read_writes_cons_unit_of_not_mem v f _ _ _ _ (k0_off12_eq k) 1 (Or.inl (by show b.val < 768; omega)), dif_pos h2]
      exact View.read_writes_cons_unit_of_mem v f _ _ _ _ (ix2 (n0 := 16) (n1 := 256) ⟨a.val % 16, by omega⟩ ⟨b.val - 512, by omega⟩) (k0_off10_eq k)
        (Fin.forall_fin_two.mpr ⟨hm, by show b.val = 512 + (b.val - 512); omega⟩)
    rw [dif_neg h2]
    exact View.read_writes_cons_unit_of_mem v f _ _ _ _ (ix2 (n0 := 16) (n1 := 256) ⟨a.val % 16, by omega⟩ ⟨b.val - 768, by omega⟩) (k0_off12_eq k)
      (Fin.forall_fin_two.mpr ⟨hm, by show b.val = 768 + (b.val - 768); omega⟩)

set_option warn.classDefReducibility false in
set_option maxHeartbeats 1000000 in
/-- The loop by that invariant. -/
@[sl_loop] def headLoop (𝒱 : Variants) (c : Dev nD) (bd : Option 𝒱.V) (E : Set ℕ) (i : grid0.Coords) (arg2 : Memref sig .tc .smem S2 .i32) (harg2 : arg2.IsWhole) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (n : Elt F .i32) (v3 : BitVec 32) (v21 : IVec S1024x1 1)
    (X11 : BufTy.Contents (Elt F) arg11.view.ty) (X12 : BufTy.Contents (Elt F) arg12.view.ty) (X13 : BufTy.Contents (Elt F) arg13.view.ty) (X15 : BufTy.Contents (Elt F) arg15.view.ty) (X16 : BufTy.Contents (Elt F) arg16.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 n v3 v21 where
  inv := headInv (F := F) c n v3 v21 arg11 arg12 arg13 arg14 arg15 arg16 X11 X12 X13 X15 X16
  step k acc := by
    have hk : k.val < 40 := Nat.lt_of_lt_of_le k.isLt k0_t1_abs.2.1
    show headInv (F := F) c n v3 v21 arg11 arg12 arg13 arg14 arg15 arg16 X11 X12 X13 X15 X16 k.val acc ⊢ _
    iintro ⟨HX11, HX12, HX13, HX15, HX16, ⟨%f, HW, %hf⟩⟩
    unfold k0_t1_body
    sl_exec
    sl_step
    isplitl [HX11]; · iexact HX11
    isplitl [HX12]; · iexact HX12
    isplitl [HX13]; · iexact HX13
    isplitl [HX15]; · iexact HX15
    isplitl [HX16]; · iexact HX16
    iexists _; isplitl [HW]; · iexact HW
    ipureintro
    intro a b hab
    exact head_rows arg14.view f n v3 v21 (arg11.view.read (Elt F) X11) (arg12.view.read (Elt F) X12) (arg13.view.read (Elt F) X13) (arg15.view.read (Elt F) X15) (arg16.view.read (Elt F) X16) k hf a b hab

end Cert.KernelIdeal.Hand

end
-- ==== Proof.ICopy.lean ====
/- The zero-padded copy of q's codes: 40 stores, one per head, each of the head's 16 rows at its place among its group's 128,
   onto a scratch that is zero off those places. -/
module

public import proofs.«01_k».proof.Proof.IVal
public import Idealize.ShloMosaic.Lib.Pointwise
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.SL.Sem

variable {F : FTy → Type} [FloatOps F] [Named F]

/-- The scratch after the stores of the heads below `h`. -/
def bandsTo (h : ℕ) (y : FVec F S640x1024 .fp8e4m3) (base : FVec F S40x128x1024 .fp8e4m3) : FVec F S40x128x1024 .fp8e4m3 := fun j =>
  if (j 0).val < h ∧ inBand (j 0).val (j 1).val then qzOf y j else base j

/-- A store's payload: 16 rows of the codes from row `o`. -/
theorem rows_at (o : ℕ) (y : FVec F S640x1024 .fp8e4m3) (hs : S640x1024.Slices ![o, 0] S16x1024) (hc : S16x1024.ShapeCasts S1x16x1024)
    (h : Fin 40) (ho : o = 16 * h.val) (a : Fin 16) (b : Fin 1024) :
    shapeCast S1x16x1024 (extractStridedSlice S16x1024 ![o, 0] y hs) hc (ix3 (n0 := 1) 0 a b)
      = y (ix2 (n0 := 640) ⟨16 * h.val + a.val, by omega⟩ b) := by
  subst ho
  pointwise

/-- One head's store. -/
theorem band_step (v : View sig .tc .vmem S40x128x1024 .fp8e4m3) (f : v.ty.Contents (Elt F)) (y : FVec F S640x1024 .fp8e4m3)
    (base : FVec F S40x128x1024 .fp8e4m3) (L : List (View.Piece (Elt F) S40x128x1024 .fp8e4m3)) (h : Fin 40) (off : Fin 3 → ℕ)
    (heq : off = ![h.val, 16 * (h.val % 8), 0])
    (inb : ∀ a, off a + S1x16x1024.size a ≤ S40x128x1024.size a) (w : FVec F S1x16x1024 .fp8e4m3)
    (hw : ∀ (a : Fin 16) (b : Fin 1024), w (ix3 (n0 := 1) 0 a b) = y (ix2 (n0 := 640) ⟨16 * h.val + a.val, by omega⟩ b))
    (hL : v.read (Elt F) (v.writes (Elt F) f L) = bandsTo h.val y base) :
    v.read (Elt F) (v.writes (Elt F) f (⟨Rect.unit (s := S40x128x1024) off S1x16x1024.size inb, w⟩ :: L)) = bandsTo (h.val + 1) y base := by
  funext j
  have h1 : (j 1).val < 128 := (j 1).isLt
  have h2 : (j 2).val < 1024 := (j 2).isLt
  by_cases hj : (j 0).val = h.val ∧ inBand (j 0).val (j 1).val
  · obtain ⟨hj0, hb⟩ := hj
    have hb' := hb
    unfold inBand at hb'
    rw [hj0] at hb'
    rw [View.read_writes_cons_unit_of_mem v f inb w L j (ix3 (n0 := 1) (n1 := 16) (n2 := 1024) 0 ⟨(j 1).val - 16 * (h.val % 8), by omega⟩ ⟨(j 2).val, h2⟩) heq
      (fun a => by
        match a with
        | ⟨0, _⟩ => show (j 0).val = h.val + 0; omega
        | ⟨1, _⟩ => show (j 1).val = 16 * (h.val % 8) + ((j 1).val - 16 * (h.val % 8)); omega
        | ⟨2, _⟩ => show (j 2).val = 0 + (j 2).val; omega)]
    refine (hw _ _).trans ?_
    unfold bandsTo qzOf
    rw [if_pos ⟨by omega, hb⟩, if_pos hb]
    congr 1
    congr 1
    apply Fin.ext
    show 16 * h.val + ((j 1).val - 16 * (h.val % 8)) = 128 * ((j 0).val / 8) + (j 1).val
    omega
  · have hno : v.read (Elt F) (v.writes (Elt F) f (⟨Rect.unit (s := S40x128x1024) off S1x16x1024.size inb, w⟩ :: L)) j
        = v.read (Elt F) (v.writes (Elt F) f L) j := by
      by_cases hj0 : (j 0).val = h.val
      · refine View.read_writes_cons_unit_of_not_mem v f inb w L j heq 1 ?_
        show (j 1).val < 16 * (h.val % 8) ∨ 16 * (h.val % 8) + 16 ≤ (j 1).val
        have : ¬ inBand (j 0).val (j 1).val := fun hb => hj ⟨hj0, hb⟩
        unfold inBand at this; rw [hj0] at this; omega
      · refine View.read_writes_cons_unit_of_not_mem v f inb w L j heq 0 ?_
        show (j 0).val < h.val ∨ h.val + 1 ≤ (j 0).val
        omega
    rw [hno, hL]
    unfold bandsTo
    by_cases hb : inBand (j 0).val (j 1).val
    · have : (j 0).val ≠ h.val := fun h0 => hj ⟨h0, hb⟩
      simp only [show ((j 0).val < h.val + 1) = ((j 0).val < h.val) from propext (by omega)]
    · rw [if_neg fun h => hb h.2, if_neg fun h => hb h.2]

/-- All heads stored: the copy of the codes, whatever the scratch held on the bands. -/
theorem bandsTo_all (y : FVec F S640x1024 .fp8e4m3) (base : FVec F S40x128x1024 .fp8e4m3) (hb : OffZero base) : bandsTo 40 y base = qzOf y := by
  funext j
  have h0 : (j 0).val < 40 := (j 0).isLt
  unfold bandsTo
  by_cases h : inBand (j 0).val (j 1).val
  · rw [if_pos ⟨h0, h⟩]
  · rw [if_neg fun h' => h h'.2, hb j h, qzOf, if_neg h]

set_option maxHeartbeats 1000000 in
/-- The 40 stores of the body, newest first, on any earlier stores `L` that leave the scratch zero off the bands. -/
theorem bands_read (v : View sig .tc .vmem S40x128x1024 .fp8e4m3) (f : v.ty.Contents (Elt F)) (v27 : FVec F S1024x640 .f32) (e : IVec S8x640 32)
    (L : List (View.Piece (Elt F) S40x128x1024 .fp8e4m3)) (hL : OffZero (v.read (Elt F) (v.writes (Elt F) f L))) :
    v.read (Elt F) (v.writes (Elt F) f (
      ⟨Rect.unit (s := S40x128x1024) ![39, 112, 0] S1x16x1024.size inb_S40x128x1024_S1x16x1024_39_112_0, k0_pay78 (k0_pay77 (k0_pay34 v27 e 0#32))⟩ ::
      ⟨Rect.unit (s := S40x128x1024) ![38, 96, 0] S1x16x1024.size inb_S40x128x1024_S1x16x1024_38_96_0, k0_pay76 (k0_pay34 v27 e 0#32)⟩ ::
      ⟨Rect.unit (s := S40x128x1024) ![37, 80, 0] S1x16x1024.size inb_S40x128x1024_S1x16x1024_37_80_0, k0_pay75 (k0_pay34 v27 e 0#32)⟩ ::
      ⟨Rect.unit (s := S40x128x1024) ![36, 64, 0] S1x16x1024.size inb_S40x128x1024_S1x16x1024_36_64_0, k0_pay74 (k0_pay34 v27 e 0#32)⟩ ::
      ⟨Rect.unit (s := S40x128x1024) ![35, 48, 0] S1x16x1024.size inb_S40x128x1024_S1x16x1024_35_48_0, k0_pay73 (k0_pay34 v27 e 0#32)⟩ ::
      ⟨Rect.unit (s := S40x128x1024) ![34, 32, 0] S1x16x1024.size inb_S40x128x1024_S1x16x1024_34_32_0, k0_pay72 (k0_pay34 v27 e 0#32)⟩ ::
      ⟨Rect.unit (s := S40x128x1024) ![33, 16, 0] S1x16x1024.size inb_S40x128x1024_S1x16x1024_33_16_0, k0_pay71 (k0_pay34 v27 e 0#32)⟩ ::
      ⟨Rect.unit (s := S40x128x1024) ![32, 0, 0] S1x16x1024.size inb_S40x128x1024_S1x16x1024_32_0_0, k0_pay70 (k0_pay34 v27 e 0#32)⟩ ::
      ⟨Rect.unit (s := S40x128x1024) ![31, 112, 0] S1x16x1024.size inb_S40x128x1024_S1x16x1024_31_112_0, k0_pay69 (k0_pay34 v27 e 0#32)⟩ ::
      ⟨Rect.unit (s := S40x128x1024) ![30, 96, 0] S1x16x1024.size inb_S40x128x1024_S1x16x1024_30_96_0, k0_pay68 (k0_pay34 v27 e 0#32)⟩ ::
      ⟨Rect.unit (s := S40x128x1024) ![29, 80, 0] S1x16x1024.size inb_S40x128x1024_S1x16x1024_29_80_0, k0_pay67 (k0_pay34 v27 e 0#32)⟩ ::
      ⟨Rect.unit (s := S40x128x1024) ![28, 64, 0] S1x16x1024.size inb_S40x128x1024_S1x16x1024_28_64_0, k0_pay66 (k0_pay34 v27 e 0#32)⟩ ::
      ⟨Rect.unit (s := S40x128x1024) ![27, 48, 0] S1x16x1024.size inb_S40x128x1024_S1x16x1024_27_48_0, k0_pay65 (k0_pay34 v27 e 0#32)⟩ ::
      ⟨Rect.unit (s := S40x128x1024) ![26, 32, 0] S1x16x1024.size inb_S40x128x1024_S1x16x1024_26_32_0, k0_pay64 (k0_pay34 v27 e 0#32)⟩ ::
      ⟨Rect.unit (s := S40x128x1024) ![25, 16, 0] S1x16x1024.size inb_S40x128x1024_S1x16x1024_25_16_0, k0_pay63 (k0_pay34 v27 e 0#32)⟩ ::
      ⟨Rect.unit (s := S40x128x1024) ![24, 0, 0] S1x16x1024.size inb_S40x128x1024_S1x16x1024_24_0_0, k0_pay62 (k0_pay61 (k0_pay34 v27 e 0#32))⟩ ::
      ⟨Rect.unit (s := S40x128x1024) ![23, 112, 0] S1x16x1024.size inb_S40x128x1024_S1x16x1024_23_112_0, k0_pay60 (k0_pay34 v27 e 0#32)⟩ ::
      ⟨Rect.unit (s := S40x128x1024) ![22, 96, 0] S1x16x1024.size inb_S40x128x1024_S1x16x1024_22_96_0, k0_pay59 (k0_pay34 v27 e 0#32)⟩ ::
      ⟨Rect.unit (s := S40x128x1024) ![21, 80, 0] S1x16x1024.size inb_S40x128x1024_S1x16x1024_21_80_0, k0_pay58 (k0_pay34 v27 e 0#32)⟩ ::
      ⟨Rect.unit (s := S40x128x1024) ![20, 64, 0] S1x16x1024.size inb_S40x128x1024_S1x16x1024_20_64_0, k0_pay57 (k0_pay34 v27 e 0#32)⟩ ::
      ⟨Rect.unit (s := S40x128x1024) ![19, 48, 0] S1x16x1024.size inb_S40x128x1024_S1x16x1024_19_48_0, k0_pay56 (k0_pay34 v27 e 0#32)⟩ ::
      ⟨Rect.unit (s := S40x128x1024) ![18, 32, 0] S1x16x1024.size inb_S40x128x1024_S1x16x1024_18_32_0, k0_pay55 (k0_pay34 v27 e 0#32)⟩ ::
      ⟨Rect.unit (s := S40x128x1024) ![17, 16, 0] S1x16x1024.size inb_S40x128x1024_S1x16x1024_17_16_0, k0_pay54 (k0_pay34 v27 e 0#32)⟩ ::
      ⟨Rect.unit (s := S40x128x1024) ![16, 0, 0] S1x16x1024.size inb_S40x128x1024_S1x16x1024_16_0_0, k0_pay53 (k0_pay34 v27 e 0#32)⟩ ::
      ⟨Rect.unit (s := S40x128x1024) ![15, 112, 0] S1x16x1024.size inb_S40x128x1024_S1x16x1024_15_112_0, k0_pay52 (k0_pay34 v27 e 0#32)⟩ ::
      ⟨Rect.unit (s := S40x128x1024) ![14, 96, 0] S1x16x1024.size inb_S40x128x1024_S1x16x1024_14_96_0, k0_pay51 (k0_pay34 v27 e 0#32)⟩ ::
      ⟨Rect.unit (s := S40x128x1024) ![13, 80, 0] S1x16x1024.size inb_S40x128x1024_S1x16x1024_13_80_0, k0_pay50 (k0_pay34 v27 e 0#32)⟩ ::
      ⟨Rect.unit (s := S40x128x1024) ![12, 64, 0] S1x16x1024.size inb_S40x128x1024_S1x16x1024_12_64_0, k0_pay49 (k0_pay34 v27 e 0#32)⟩ ::
      ⟨Rect.unit (s := S40x128x1024) ![11, 48, 0] S1x16x1024.size inb_S40x128x1024_S1x16x1024_11_48_0, k0_pay48 (k0_pay34 v27 e 0#32)⟩ ::
      ⟨Rect.unit (s := S40x128x1024) ![10, 32, 0] S1x16x1024.size inb_S40x128x1024_S1x16x1024_10_32_0, k0_pay47 (k0_pay34 v27 e 0#32)⟩ ::
      ⟨Rect.unit (s := S40x128x1024) ![9, 16, 0] S1x16x1024.size inb_S40x128x1024_S1x16x1024_9_16_0, k0_pay46 (k0_pay45 (k0_pay34 v27 e 0#32))⟩ ::
      ⟨Rect.unit (s := S40x128x1024) ![8, 0, 0] S1x16x1024.size inb_S40x128x1024_S1x16x1024_8_0_0, k0_pay44 (k0_pay34 v27 e 0#32)⟩ ::
      ⟨Rect.unit (s := S40x128x1024) ![7, 112, 0] S1x16x1024.size inb_S40x128x1024_S1x16x1024_7_112_0, k0_pay43 (k0_pay34 v27 e 0#32)⟩ ::
      ⟨Rect.unit (s := S40x128x1024) ![6, 96, 0] S1x16x1024.size inb_S40x128x1024_S1x16x1024_6_96_0, k0_pay42 (k0_pay34 v27 e 0#32)⟩ ::
      ⟨Rect.unit (s := S40x128x1024) ![5, 80, 0] S1x16x1024.size inb_S40x128x1024_S1x16x1024_5_80_0, k0_pay41 (k0_pay34 v27 e 0#32)⟩ ::
      ⟨Rect.unit (s := S40x128x1024) ![4, 64, 0] S1x16x1024.size inb_S40x128x1024_S1x16x1024_4_64_0, k0_pay40 (k0_pay34 v27 e 0#32)⟩ ::
      ⟨Rect.unit (s := S40x128x1024) ![3, 48, 0] S1x16x1024.size inb_S40x128x1024_S1x16x1024_3_48_0, k0_pay39 (k0_pay34 v27 e 0#32)⟩ ::
      ⟨Rect.unit (s := S40x128x1024) ![2, 32, 0] S1x16x1024.size inb_S40x128x1024_S1x16x1024_2_32_0, k0_pay38 (k0_pay34 v27 e 0#32)⟩ ::
      ⟨Rect.unit (s := S40x128x1024) ![1, 16, 0] S1x16x1024.size inb_S40x128x1024_S1x16x1024_1_16_0, k0_pay37 v27 e 0#32⟩ ::
      ⟨Rect.unit (s := S40x128x1024) ![0, 0, 0] S1x16x1024.size inb_S40x128x1024_S1x16x1024_0_0_0, k0_pay36 v27 e 0#32⟩ :: L)) = qzOf (k0_pay34 v27 e 0#32) := by
  refine Eq.trans ?_ (bandsTo_all (k0_pay34 v27 e 0#32) _ hL)
  have hbase : v.read (Elt F) (v.writes (Elt F) f L) = bandsTo 0 (k0_pay34 v27 e 0#32) (v.read (Elt F) (v.writes (Elt F) f L)) := by
    funext j; unfold bandsTo; rw [if_neg fun h => absurd h.1 (Nat.not_lt_zero _)]
  refine band_step v f (k0_pay34 v27 e 0#32) _ _ ⟨39, Nat.lt_of_sub_eq_succ rfl⟩ ![39, 112, 0] (show (![39, 112, 0] : Fin 3 → ℕ) = ![39, 16 * (39 % 8), 0] from rfl) inb_S40x128x1024_S1x16x1024_39_112_0 (k0_pay78 (k0_pay77 (k0_pay34 v27 e 0#32)))
    (fun a b => rows_at 624 (k0_pay34 v27 e 0#32) slices_S640x1024_o624_0_S16x1024 shapeCasts_S16x1024_S1x16x1024 ⟨39, Nat.lt_of_sub_eq_succ rfl⟩ (show 624 = 16 * 39 from rfl) a b) ?_
  refine band_step v f (k0_pay34 v27 e 0#32) _ _ ⟨38, Nat.lt_of_sub_eq_succ rfl⟩ ![38, 96, 0] (show (![38, 96, 0] : Fin 3 → ℕ) = ![38, 16 * (38 % 8), 0] from rfl) inb_S40x128x1024_S1x16x1024_38_96_0 (k0_pay76 (k0_pay34 v27 e 0#32))
    (fun a b => rows_at 608 (k0_pay34 v27 e 0#32) slices_S640x1024_o608_0_S16x1024 shapeCasts_S16x1024_S1x16x1024 ⟨38, Nat.lt_of_sub_eq_succ rfl⟩ (show 608 = 16 * 38 from rfl) a b) ?_
  refine band_step v f (k0_pay34 v27 e 0#32) _ _ ⟨37, Nat.lt_of_sub_eq_succ rfl⟩ ![37, 80, 0] (show (![37, 80, 0] : Fin 3 → ℕ) = ![37, 16 * (37 % 8), 0] from rfl) inb_S40x128x1024_S1x16x1024_37_80_0 (k0_pay75 (k0_pay34 v27 e 0#32))
    (fun a b => rows_at 592 (k0_pay34 v27 e 0#32) slices_S640x1024_o592_0_S16x1024 shapeCasts_S16x1024_S1x16x1024 ⟨37, Nat.lt_of_sub_eq_succ rfl⟩ (show 592 = 16 * 37 from rfl) a b) ?_
  refine band_step v f (k0_pay34 v27 e 0#32) _ _ ⟨36, Nat.lt_of_sub_eq_succ rfl⟩ ![36, 64, 0] (show (![36, 64, 0] : Fin 3 → ℕ) = ![36, 16 * (36 % 8), 0] from rfl) inb_S40x128x1024_S1x16x1024_36_64_0 (k0_pay74 (k0_pay34 v27 e 0#32))
    (fun a b => rows_at 576 (k0_pay34 v27 e 0#32) slices_S640x1024_o576_0_S16x1024 shapeCasts_S16x1024_S1x16x1024 ⟨36, Nat.lt_of_sub_eq_succ rfl⟩ (show 576 = 16 * 36 from rfl) a b) ?_
  refine band_step v f (k0_pay34 v27 e 0#32) _ _ ⟨35, Nat.lt_of_sub_eq_succ rfl⟩ ![35, 48, 0] (show (![35, 48, 0] : Fin 3 → ℕ) = ![35, 16 * (35 % 8), 0] from rfl) inb_S40x128x1024_S1x16x1024_35_48_0 (k0_pay73 (k0_pay34 v27 e 0#32))
    (fun a b => rows_at 560 (k0_pay34 v27 e 0#32) slices_S640x1024_o560_0_S16x1024 shapeCasts_S16x1024_S1x16x1024 ⟨35, Nat.lt_of_sub_eq_succ rfl⟩ (show 560 = 16 * 35 from rfl) a b) ?_
  refine band_step v f (k0_pay34 v27 e 0#32) _ _ ⟨34, Nat.lt_of_sub_eq_succ rfl⟩ ![34, 32, 0] (show (![34, 32, 0] : Fin 3 → ℕ) = ![34, 16 * (34 % 8), 0] from rfl) inb_S40x128x1024_S1x16x1024_34_32_0 (k0_pay72 (k0_pay34 v27 e 0#32))
    (fun a b => rows_at 544 (k0_pay34 v27 e 0#32) slices_S640x1024_o544_0_S16x1024 shapeCasts_S16x1024_S1x16x1024 ⟨34, Nat.lt_of_sub_eq_succ rfl⟩ (show 544 = 16 * 34 from rfl) a b) ?_
  refine band_step v f (k0_pay34 v27 e 0#32) _ _ ⟨33, Nat.lt_of_sub_eq_succ rfl⟩ ![33, 16, 0] (show (![33, 16, 0] : Fin 3 → ℕ) = ![33, 16 * (33 % 8), 0] from rfl) inb_S40x128x1024_S1x16x1024_33_16_0 (k0_pay71 (k0_pay34 v27 e 0#32))
    (fun a b => rows_at 528 (k0_pay34 v27 e 0#32) slices_S640x1024_o528_0_S16x1024 shapeCasts_S16x1024_S1x16x1024 ⟨33, Nat.lt_of_sub_eq_succ rfl⟩ (show 528 = 16 * 33 from rfl) a b) ?_
  refine band_step v f (k0_pay34 v27 e 0#32) _ _ ⟨32, Nat.lt_of_sub_eq_succ rfl⟩ ![32, 0, 0] (show (![32, 0, 0] : Fin 3 → ℕ) = ![32, 16 * (32 % 8), 0] from rfl) inb_S40x128x1024_S1x16x1024_32_0_0 (k0_pay70 (k0_pay34 v27 e 0#32))
    (fun a b => rows_at 512 (k0_pay34 v27 e 0#32) slices_S640x1024_o512_0_S16x1024 shapeCasts_S16x1024_S1x16x1024 ⟨32, Nat.lt_of_sub_eq_succ rfl⟩ (show 512 = 16 * 32 from rfl) a b) ?_
  refine band_step v f (k0_pay34 v27 e 0#32) _ _ ⟨31, Nat.lt_of_sub_eq_succ rfl⟩ ![31, 112, 0] (show (![31, 112, 0] : Fin 3 → ℕ) = ![31, 16 * (31 % 8), 0] from rfl) inb_S40x128x1024_S1x16x1024_31_112_0 (k0_pay69 (k0_pay34 v27 e 0#32))
    (fun a b => rows_at 496 (k0_pay34 v27 e 0#32) slices_S640x1024_o496_0_S16x1024 shapeCasts_S16x1024_S1x16x1024 ⟨31, Nat.lt_of_sub_eq_succ rfl⟩ (show 496 = 16 * 31 from rfl) a b) ?_
  refine band_step v f (k0_pay34 v27 e 0#32) _ _ ⟨30, Nat.lt_of_sub_eq_succ rfl⟩ ![30, 96, 0] (show (![30, 96, 0] : Fin 3 → ℕ) = ![30, 16 * (30 % 8), 0] from rfl) inb_S40x128x1024_S1x16x1024_30_96_0 (k0_pay68 (k0_pay34 v27 e 0#32))
    (fun a b => rows_at 480 (k0_pay34 v27 e 0#32) slices_S640x1024_o480_0_S16x1024 shapeCasts_S16x1024_S1x16x1024 ⟨30, Nat.lt_of_sub_eq_succ rfl⟩ (show 480 = 16 * 30 from rfl) a b) ?_
  refine band_step v f (k0_pay34 v27 e 0#32) _ _ ⟨29, Nat.lt_of_sub_eq_succ rfl⟩ ![29, 80, 0] (show (![29, 80, 0] : Fin 3 → ℕ) = ![29, 16 * (29 % 8), 0] from rfl) inb_S40x128x1024_S1x16x1024_29_80_0 (k0_pay67 (k0_pay34 v27 e 0#32))
    (fun a b => rows_at 464 (k0_pay34 v27 e 0#32) slices_S640x1024_o464_0_S16x1024 shapeCasts_S16x1024_S1x16x1024 ⟨29, Nat.lt_of_sub_eq_succ rfl⟩ (show 464 = 16 * 29 from rfl) a b) ?_
  refine band_step v f (k0_pay34 v27 e 0#32) _ _ ⟨28, Nat.lt_of_sub_eq_succ rfl⟩ ![28, 64, 0] (show (![28, 64, 0] : Fin 3 → ℕ) = ![28, 16 * (28 % 8), 0] from rfl) inb_S40x128x1024_S1x16x1024_28_64_0 (k0_pay66 (k0_pay34 v27 e 0#32))
    (fun a b => rows_at 448 (k0_pay34 v27 e 0#32) slices_S640x1024_o448_0_S16x1024 shapeCasts_S16x1024_S1x16x1024 ⟨28, Nat.lt_of_sub_eq_succ rfl⟩ (show 448 = 16 * 28 from rfl) a b) ?_
  refine band_step v f (k0_pay34 v27 e 0#32) _ _ ⟨27, Nat.lt_of_sub_eq_succ rfl⟩ ![27, 48, 0] (show (![27, 48, 0] : Fin 3 → ℕ) = ![27, 16 * (27 % 8), 0] from rfl) inb_S40x128x1024_S1x16x1024_27_48_0 (k0_pay65 (k0_pay34 v27 e 0#32))
    (fun a b => rows_at 432 (k0_pay34 v27 e 0#32) slices_S640x1024_o432_0_S16x1024 shapeCasts_S16x1024_S1x16x1024 ⟨27, Nat.lt_of_sub_eq_succ rfl⟩ (show 432 = 16 * 27 from rfl) a b) ?_
  refine band_step v f (k0_pay34 v27 e 0#32) _ _ ⟨26, Nat.lt_of_sub_eq_succ rfl⟩ ![26, 32, 0] (show (![26, 32, 0] : Fin 3 → ℕ) = ![26, 16 * (26 % 8), 0] from rfl) inb_S40x128x1024_S1x16x1024_26_32_0 (k0_pay64 (k0_pay34 v27 e 0#32))
    (fun a b => rows_at 416 (k0_pay34 v27 e 0#32) slices_S640x1024_o416_0_S16x1024 shapeCasts_S16x1024_S1x16x1024 ⟨26, Nat.lt_of_sub_eq_succ rfl⟩ (show 416 = 16 * 26 from rfl) a b) ?_
  refine band_step v f (k0_pay34 v27 e 0#32) _ _ ⟨25, Nat.lt_of_sub_eq_succ rfl⟩ ![25, 16, 0] (show (![25, 16, 0] : Fin 3 → ℕ) = ![25, 16 * (25 % 8), 0] from rfl) inb_S40x128x1024_S1x16x1024_25_16_0 (k0_pay63 (k0_pay34 v27 e 0#32))
    (fun a b => rows_at 400 (k0_pay34 v27 e 0#32) slices_S640x1024_o400_0_S16x1024 shapeCasts_S16x1024_S1x16x1024 ⟨25, Nat.lt_of_sub_eq_succ rfl⟩ (show 400 = 16 * 25 from rfl) a b) ?_
  refine band_step v f (k0_pay34 v27 e 0#32) _ _ ⟨24, Nat.lt_of_sub_eq_succ rfl⟩ ![24, 0, 0] (show (![24, 0, 0] : Fin 3 → ℕ) = ![24, 16 * (24 % 8), 0] from rfl) inb_S40x128x1024_S1x16x1024_24_0_0 (k0_pay62 (k0_pay61 (k0_pay34 v27 e 0#32)))
    (fun a b => rows_at 384 (k0_pay34 v27 e 0#32) slices_S640x1024_o384_0_S16x1024 shapeCasts_S16x1024_S1x16x1024 ⟨24, Nat.lt_of_sub_eq_succ rfl⟩ (show 384 = 16 * 24 from rfl) a b) ?_
  refine band_step v f (k0_pay34 v27 e 0#32) _ _ ⟨23, Nat.lt_of_sub_eq_succ rfl⟩ ![23, 112, 0] (show (![23, 112, 0] : Fin 3 → ℕ) = ![23, 16 * (23 % 8), 0] from rfl) inb_S40x128x1024_S1x16x1024_23_112_0 (k0_pay60 (k0_pay34 v27 e 0#32))
    (fun a b => rows_at 368 (k0_pay34 v27 e 0#32) slices_S640x1024_o368_0_S16x1024 shapeCasts_S16x1024_S1x16x1024 ⟨23, Nat.lt_of_sub_eq_succ rfl⟩ (show 368 = 16 * 23 from rfl) a b) ?_
  refine band_step v f (k0_pay34 v27 e 0#32) _ _ ⟨22, Nat.lt_of_sub_eq_succ rfl⟩ ![22, 96, 0] (show (![22, 96, 0] : Fin 3 → ℕ) = ![22, 16 * (22 % 8), 0] from rfl) inb_S40x128x1024_S1x16x1024_22_96_0 (k0_pay59 (k0_pay34 v27 e 0#32))
    (fun a b => rows_at 352 (k0_pay34 v27 e 0#32) slices_S640x1024_o352_0_S16x1024 shapeCasts_S16x1024_S1x16x1024 ⟨22, Nat.lt_of_sub_eq_succ rfl⟩ (show 352 = 16 * 22 from rfl) a b) ?_
  refine band_step v f (k0_pay34 v27 e 0#32) _ _ ⟨21, Nat.lt_of_sub_eq_succ rfl⟩ ![21, 80, 0] (show (![21, 80, 0] : Fin 3 → ℕ) = ![21, 16 * (21 % 8), 0] from rfl) inb_S40x128x1024_S1x16x1024_21_80_0 (k0_pay58 (k0_pay34 v27 e 0#32))
    (fun a b => rows_at 336 (k0_pay34 v27 e 0#32) slices_S640x1024_o336_0_S16x1024 shapeCasts_S16x1024_S1x16x1024 ⟨21, Nat.lt_of_sub_eq_succ rfl⟩ (show 336 = 16 * 21 from rfl) a b) ?_
  refine band_step v f (k0_pay34 v27 e 0#32) _ _ ⟨20, Nat.lt_of_sub_eq_succ rfl⟩ ![20, 64, 0] (show (![20, 64, 0] : Fin 3 → ℕ) = ![20, 16 * (20 % 8), 0] from rfl) inb_S40x128x1024_S1x16x1024_20_64_0 (k0_pay57 (k0_pay34 v27 e 0#32))
    (fun a b => rows_at 320 (k0_pay34 v27 e 0#32) slices_S640x1024_o320_0_S16x1024 shapeCasts_S16x1024_S1x16x1024 ⟨20, Nat.lt_of_sub_eq_succ rfl⟩ (show 320 = 16 * 20 from rfl) a b) ?_
  refine band_step v f (k0_pay34 v27 e 0#32) _ _ ⟨19, Nat.lt_of_sub_eq_succ rfl⟩ ![19, 48, 0] (show (![19, 48, 0] : Fin 3 → ℕ) = ![19, 16 * (19 % 8), 0] from rfl) inb_S40x128x1024_S1x16x1024_19_48_0 (k0_pay56 (k0_pay34 v27 e 0#32))
    (fun a b => rows_at 304 (k0_pay34 v27 e 0#32) slices_S640x1024_o304_0_S16x1024 shapeCasts_S16x1024_S1x16x1024 ⟨19, Nat.lt_of_sub_eq_succ rfl⟩ (show 304 = 16 * 19 from rfl) a b) ?_
  refine band_step v f (k0_pay34 v27 e 0#32) _ _ ⟨18, Nat.lt_of_sub_eq_succ rfl⟩ ![18, 32, 0] (show (![18, 32, 0] : Fin 3 → ℕ) = ![18, 16 * (18 % 8), 0] from rfl) inb_S40x128x1024_S1x16x1024_18_32_0 (k0_pay55 (k0_pay34 v27 e 0#32))
    (fun a b => rows_at 288 (k0_pay34 v27 e 0#32) slices_S640x1024_o288_0_S16x1024 shapeCasts_S16x1024_S1x16x1024 ⟨18, Nat.lt_of_sub_eq_succ rfl⟩ (show 288 = 16 * 18 from rfl) a b) ?_
  refine band_step v f (k0_pay34 v27 e 0#32) _ _ ⟨17, Nat.lt_of_sub_eq_succ rfl⟩ ![17, 16, 0] (show (![17, 16, 0] : Fin 3 → ℕ) = ![17, 16 * (17 % 8), 0] from rfl) inb_S40x128x1024_S1x16x1024_17_16_0 (k0_pay54 (k0_pay34 v27 e 0#32))
    (fun a b => rows_at 272 (k0_pay34 v27 e 0#32) slices_S640x1024_o272_0_S16x1024 shapeCasts_S16x1024_S1x16x1024 ⟨17, Nat.lt_of_sub_eq_succ rfl⟩ (show 272 = 16 * 17 from rfl) a b) ?_
  refine band_step v f (k0_pay34 v27 e 0#32) _ _ ⟨16, Nat.lt_of_sub_eq_succ rfl⟩ ![16, 0, 0] (show (![16, 0, 0] : Fin 3 → ℕ) = ![16, 16 * (16 % 8), 0] from rfl) inb_S40x128x1024_S1x16x1024_16_0_0 (k0_pay53 (k0_pay34 v27 e 0#32))
    (fun a b => rows_at 256 (k0_pay34 v27 e 0#32) slices_S640x1024_o256_0_S16x1024 shapeCasts_S16x1024_S1x16x1024 ⟨16, Nat.lt_of_sub_eq_succ rfl⟩ (show 256 = 16 * 16 from rfl) a b) ?_
  refine band_step v f (k0_pay34 v27 e 0#32) _ _ ⟨15, Nat.lt_of_sub_eq_succ rfl⟩ ![15, 112, 0] (show (![15, 112, 0] : Fin 3 → ℕ) = ![15, 16 * (15 % 8), 0] from rfl) inb_S40x128x1024_S1x16x1024_15_112_0 (k0_pay52 (k0_pay34 v27 e 0#32))
    (fun a b => rows_at 240 (k0_pay34 v27 e 0#32) slices_S640x1024_o240_0_S16x1024 shapeCasts_S16x1024_S1x16x1024 ⟨15, Nat.lt_of_sub_eq_succ rfl⟩ (show 240 = 16 * 15 from rfl) a b) ?_
  refine band_step v f (k0_pay34 v27 e 0#32) _ _ ⟨14, Nat.lt_of_sub_eq_succ rfl⟩ ![14, 96, 0] (show (![14, 96, 0] : Fin 3 → ℕ) = ![14, 16 * (14 % 8), 0] from rfl) inb_S40x128x1024_S1x16x1024_14_96_0 (k0_pay51 (k0_pay34 v27 e 0#32))
    (fun a b => rows_at 224 (k0_pay34 v27 e 0#32) slices_S640x1024_o224_0_S16x1024 shapeCasts_S16x1024_S1x16x1024 ⟨14, Nat.lt_of_sub_eq_succ rfl⟩ (show 224 = 16 * 14 from rfl) a b) ?_
  refine band_step v f (k0_pay34 v27 e 0#32) _ _ ⟨13, Nat.lt_of_sub_eq_succ rfl⟩ ![13, 80, 0] (show (![13, 80, 0] : Fin 3 → ℕ) = ![13, 16 * (13 % 8), 0] from rfl) inb_S40x128x1024_S1x16x1024_13_80_0 (k0_pay50 (k0_pay34 v27 e 0#32))
    (fun a b => rows_at 208 (k0_pay34 v27 e 0#32) slices_S640x1024_o208_0_S16x1024 shapeCasts_S16x1024_S1x16x1024 ⟨13, Nat.lt_of_sub_eq_succ rfl⟩ (show 208 = 16 * 13 from rfl) a b) ?_
  refine band_step v f (k0_pay34 v27 e 0#32) _ _ ⟨12, Nat.lt_of_sub_eq_succ rfl⟩ ![12, 64, 0] (show (![12, 64, 0] : Fin 3 → ℕ) = ![12, 16 * (12 % 8), 0] from rfl) inb_S40x128x1024_S1x16x1024_12_64_0 (k0_pay49 (k0_pay34 v27 e 0#32))
    (fun a b => rows_at 192 (k0_pay34 v27 e 0#32) slices_S640x1024_o192_0_S16x1024 shapeCasts_S16x1024_S1x16x1024 ⟨12, Nat.lt_of_sub_eq_succ rfl⟩ (show 192 = 16 * 12 from rfl) a b) ?_
  refine band_step v f (k0_pay34 v27 e 0#32) _ _ ⟨11, Nat.lt_of_sub_eq_succ rfl⟩ ![11, 48, 0] (show (![11, 48, 0] : Fin 3 → ℕ) = ![11, 16 * (11 % 8), 0] from rfl) inb_S40x128x1024_S1x16x1024_11_48_0 (k0_pay48 (k0_pay34 v27 e 0#32))
    (fun a b => rows_at 176 (k0_pay34 v27 e 0#32) slices_S640x1024_o176_0_S16x1024 shapeCasts_S16x1024_S1x16x1024 ⟨11, Nat.lt_of_sub_eq_succ rfl⟩ (show 176 = 16 * 11 from rfl) a b) ?_
  refine band_step v f (k0_pay34 v27 e 0#32) _ _ ⟨10, Nat.lt_of_sub_eq_succ rfl⟩ ![10, 32, 0] (show (![10, 32, 0] : Fin 3 → ℕ) = ![10, 16 * (10 % 8), 0] from rfl) inb_S40x128x1024_S1x16x1024_10_32_0 (k0_pay47 (k0_pay34 v27 e 0#32))
    (fun a b => rows_at 160 (k0_pay34 v27 e 0#32) slices_S640x1024_o160_0_S16x1024 shapeCasts_S16x1024_S1x16x1024 ⟨10, Nat.lt_of_sub_eq_succ rfl⟩ (show 160 = 16 * 10 from rfl) a b) ?_
  refine band_step v f (k0_pay34 v27 e 0#32) _ _ ⟨9, Nat.lt_of_sub_eq_succ rfl⟩ ![9, 16, 0] (show (![9, 16, 0] : Fin 3 → ℕ) = ![9, 16 * (9 % 8), 0] from rfl) inb_S40x128x1024_S1x16x1024_9_16_0 (k0_pay46 (k0_pay45 (k0_pay34 v27 e 0#32)))
    (fun a b => rows_at 144 (k0_pay34 v27 e 0#32) slices_S640x1024_o144_0_S16x1024 shapeCasts_S16x1024_S1x16x1024 ⟨9, Nat.lt_of_sub_eq_succ rfl⟩ (show 144 = 16 * 9 from rfl) a b) ?_
  refine band_step v f (k0_pay34 v27 e 0#32) _ _ ⟨8, Nat.lt_of_sub_eq_succ rfl⟩ ![8, 0, 0] (show (![8, 0, 0] : Fin 3 → ℕ) = ![8, 16 * (8 % 8), 0] from rfl) inb_S40x128x1024_S1x16x1024_8_0_0 (k0_pay44 (k0_pay34 v27 e 0#32))
    (fun a b => rows_at 128 (k0_pay34 v27 e 0#32) slices_S640x1024_o128_0_S16x1024 shapeCasts_S16x1024_S1x16x1024 ⟨8, Nat.lt_of_sub_eq_succ rfl⟩ (show 128 = 16 * 8 from rfl) a b) ?_
  refine band_step v f (k0_pay34 v27 e 0#32) _ _ ⟨7, Nat.lt_of_sub_eq_succ rfl⟩ ![7, 112, 0] (show (![7, 112, 0] : Fin 3 → ℕ) = ![7, 16 * (7 % 8), 0] from rfl) inb_S40x128x1024_S1x16x1024_7_112_0 (k0_pay43 (k0_pay34 v27 e 0#32))
    (fun a b => rows_at 112 (k0_pay34 v27 e 0#32) slices_S640x1024_o112_0_S16x1024 shapeCasts_S16x1024_S1x16x1024 ⟨7, Nat.lt_of_sub_eq_succ rfl⟩ (show 112 = 16 * 7 from rfl) a b) ?_
  refine band_step v f (k0_pay34 v27 e 0#32) _ _ ⟨6, Nat.lt_of_sub_eq_succ rfl⟩ ![6, 96, 0] (show (![6, 96, 0] : Fin 3 → ℕ) = ![6, 16 * (6 % 8), 0] from rfl) inb_S40x128x1024_S1x16x1024_6_96_0 (k0_pay42 (k0_pay34 v27 e 0#32))
    (fun a b => rows_at 96 (k0_pay34 v27 e 0#32) slices_S640x1024_o96_0_S16x1024 shapeCasts_S16x1024_S1x16x1024 ⟨6, Nat.lt_of_sub_eq_succ rfl⟩ (show 96 = 16 * 6 from rfl) a b) ?_
  refine band_step v f (k0_pay34 v27 e 0#32) _ _ ⟨5, Nat.lt_of_sub_eq_succ rfl⟩ ![5, 80, 0] (show (![5, 80, 0] : Fin 3 → ℕ) = ![5, 16 * (5 % 8), 0] from rfl) inb_S40x128x1024_S1x16x1024_5_80_0 (k0_pay41 (k0_pay34 v27 e 0#32))
    (fun a b => rows_at 80 (k0_pay34 v27 e 0#32) slices_S640x1024_o80_0_S16x1024 shapeCasts_S16x1024_S1x16x1024 ⟨5, Nat.lt_of_sub_eq_succ rfl⟩ (show 80 = 16 * 5 from rfl) a b) ?_
  refine band_step v f (k0_pay34 v27 e 0#32) _ _ ⟨4, Nat.lt_of_sub_eq_succ rfl⟩ ![4, 64, 0] (show (![4, 64, 0] : Fin 3 → ℕ) = ![4, 16 * (4 % 8), 0] from rfl) inb_S40x128x1024_S1x16x1024_4_64_0 (k0_pay40 (k0_pay34 v27 e 0#32))
    (fun a b => rows_at 64 (k0_pay34 v27 e 0#32) slices_S640x1024_o64_0_S16x1024 shapeCasts_S16x1024_S1x16x1024 ⟨4, Nat.lt_of_sub_eq_succ rfl⟩ (show 64 = 16 * 4 from rfl) a b) ?_
  refine band_step v f (k0_pay34 v27 e 0#32) _ _ ⟨3, Nat.lt_of_sub_eq_succ rfl⟩ ![3, 48, 0] (show (![3, 48, 0] : Fin 3 → ℕ) = ![3, 16 * (3 % 8), 0] from rfl) inb_S40x128x1024_S1x16x1024_3_48_0 (k0_pay39 (k0_pay34 v27 e 0#32))
    (fun a b => rows_at 48 (k0_pay34 v27 e 0#32) slices_S640x1024_o48_0_S16x1024 shapeCasts_S16x1024_S1x16x1024 ⟨3, Nat.lt_of_sub_eq_succ rfl⟩ (show 48 = 16 * 3 from rfl) a b) ?_
  refine band_step v f (k0_pay34 v27 e 0#32) _ _ ⟨2, Nat.lt_of_sub_eq_succ rfl⟩ ![2, 32, 0] (show (![2, 32, 0] : Fin 3 → ℕ) = ![2, 16 * (2 % 8), 0] from rfl) inb_S40x128x1024_S1x16x1024_2_32_0 (k0_pay38 (k0_pay34 v27 e 0#32))
    (fun a b => rows_at 32 (k0_pay34 v27 e 0#32) slices_S640x1024_o32_0_S16x1024 shapeCasts_S16x1024_S1x16x1024 ⟨2, Nat.lt_of_sub_eq_succ rfl⟩ (show 32 = 16 * 2 from rfl) a b) ?_
  refine band_step v f (k0_pay34 v27 e 0#32) _ _ ⟨1, Nat.lt_of_sub_eq_succ rfl⟩ ![1, 16, 0] (show (![1, 16, 0] : Fin 3 → ℕ) = ![1, 16 * (1 % 8), 0] from rfl) inb_S40x128x1024_S1x16x1024_1_16_0 (k0_pay37 v27 e 0#32)
    (fun a b => rows_at 16 (k0_pay34 v27 e 0#32) slices_S640x1024_o16_0_S16x1024 shapeCasts_S16x1024_S1x16x1024 ⟨1, Nat.lt_of_sub_eq_succ rfl⟩ (show 16 = 16 * 1 from rfl) a b) ?_
  refine band_step v f (k0_pay34 v27 e 0#32) _ _ ⟨0, Nat.lt_of_sub_eq_succ rfl⟩ ![0, 0, 0] (show (![0, 0, 0] : Fin 3 → ℕ) = ![0, 16 * (0 % 8), 0] from rfl) inb_S40x128x1024_S1x16x1024_0_0_0 (k0_pay36 v27 e 0#32)
    (fun a b => rows_at 0 (k0_pay34 v27 e 0#32) slices_S640x1024_o0_0_S16x1024 shapeCasts_S16x1024_S1x16x1024 ⟨0, Nat.lt_of_sub_eq_succ rfl⟩ (show 0 = 16 * 0 from rfl) a b) ?_
  exact hbase

end Cert.KernelIdeal.Hand

end
-- ==== Proof.IPointA.lean ====
/- One grid point of the kernel, on whole staging memrefs and scratch at any contents: it leaves in the output blocks what `IVal`
   computes from the input blocks and the table, and the padded copy of q's codes in its scratch. A later point needs that
   scratch zero off the bands; the first point fills it. One statement per case of the two conditions. -/
module

public import proofs.«01_k».proof.Proof.ILoop
public import proofs.«01_k».proof.Proof.ICopy

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rows the loop leaves are the attention output of the point. -/
theorem attn_of_rows (i : grid0.Coords) (n : Elt F .i32) (x0 x1 x2 : Vec F S1024x640 .bf16) (r : FVec F S640x1024 .f32)
    (Xq : FVec F S40x128x1024 .fp8e4m3) (Xk : FVec F S1024x640 .fp8e4m3) (Xv : FVec F S640x1024 .bf16) (Xc Xs : FVec F S640x128 .f32)
    (hc2 : k0_cond2 i n = 1#1) (T : ℕ) (hT : T = k0_t1_loop.trips)
    (h : ∀ (a : Fin 640) (b : Fin 1024), a.val < 16 * T → r (ix2 a b) = OT n (start i) (k0_pay22 i n) Xq Xk Xv Xc Xs (ix2 a b))
    (hq : Xq = qzOf (qCode i n x0)) (hk : Xk = kRow i n x1) (hv : Xv = vT i n x2)
    (hc : Xc = k0_pay1 (qScale i n x0) (kScale i n x1)) (hs : Xs = k0_pay2 (vScale i n x2)) :
    k0_pay5 r = oOut i n x0 x1 x2 := by
  subst hq hk hv hc hs hT
  have e : r = OT n (start i) (k0_pay22 i n) (qzOf (qCode i n x0)) (kRow i n x1) (vT i n x2)
      (k0_pay1 (qScale i n x0) (kScale i n x1)) (k0_pay2 (vScale i n x2)) := by
    funext j
    have hj : (j 0).val < 640 := (j 0).isLt
    have hi : j = ix2 (n0 := 640) (n1 := 1024) (j 0) (j 1) := by
      funext a; match a with
      | ⟨0, _⟩ => rfl
      | ⟨1, _⟩ => rfl
    rw [hi]
    exact h (j 0) (j 1) (by rw [trips_eq]; exact hj)
  unfold oOut attnOut
  rw [if_pos hc2, e]

/-- A whole-buffer load of a block. -/
theorem load_block (arg : Memref sig .tc .vmem S1024x640 .bf16) (harg : arg.IsWhole) (x : Vec F S1024x640 .bf16) :
    View.readAt (Elt F) arg.view (Rect.unit (s := S1024x640) ![0, 0] S1024x640.size inb_S1024x640_S1024x640_0_0).toLoadRect (harg.unread x) = x :=
  (View.readAt_full arg.view (harg.unread x) inb_S1024x640_S1024x640_0_0).trans (harg.read_unread x)

set_option maxHeartbeats 4000000 in
/-- The first point of the grid, its patch with a valid row. -/
theorem point_first_valid (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : cond0_0 i) (hc2 : k0_cond2 i (word i c xt0) = 1#1) (hc3 : ¬ k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ owns (c : Thread nD τ) arg6 fullShare (qOut i (word i c xt0) x0) ∗ owns (c : Thread nD τ) arg7 fullShare (kOut i (word i c xt0) x1) ∗ owns (c : Thread nD τ) arg8 fullShare (vOut i (word i c xt0) x2) ∗ owns (c : Thread nD τ) arg9 fullShare (scOut i (word i c xt0) x0 x1 x2) ∗ owns (c : Thread nD τ) arg10 fullShare (oOut i (word i c xt0) x0 x1 x2) ∗ owns (c : Thread nD τ) arg11 fullShare (qzOf (qCode i (word i c xt0) x0)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact Eq.trans (b := qOut i (word i c xt0) (View.readAt (Elt F) arg3.view (Rect.unit (s := S1024x640) ![0, 0] S1024x640.size inb_S1024x640_S1024x640_0_0).toLoadRect (harg3.unread x0))) (View.read_writes_full _ _ _ _ _) (by rw [load_block arg3 harg3 x0])
    isplitl [H4]
    · iexists _; isplitr; swap; · iexact H4
      ipureintro; exact Eq.trans (b := kOut i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1])
    isplitl [H5]
    · iexists _; isplitr; swap; · iexact H5
      ipureintro; exact Eq.trans (b := vOut i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2])
    isplitl [H6]
    · iexists _; isplitr; swap; · iexact H6
      ipureintro; exact Eq.trans (b := scOut i (word i c xt0) (View.readAt (Elt F) arg3.view (Rect.unit (s := S1024x640) ![0, 0] S1024x640.size inb_S1024x640_S1024x640_0_0).toLoadRect (harg3.unread x0)) (View.readAt (Elt F) arg4.view (Rect.unit (s := S1024x640) ![0, 0] S1024x640.size inb_S1024x640_S1024x640_0_0).toLoadRect (harg4.unread x1)) (View.readAt (Elt F) arg5.view (Rect.unit (s := S1024x640) ![0, 0] S1024x640.size inb_S1024x640_S1024x640_0_0).toLoadRect (harg5.unread x2))) (View.read_writes_full _ _ _ _ _) (by rw [load_block arg3 harg3 x0, load_block arg4 harg4 x1, load_block arg5 harg5 x2])
    isplitl [H7]
    · iexists _; isplitr; swap; · iexact H7
      ipureintro; refine Eq.trans (b := k0_pay5 (View.read (Elt F) arg14.view fL0)) ((View.read_writes_full _ _ _ _ _).trans (congrArg k0_pay5 (View.readAt_full _ _ _))) ?_
      exact attn_of_rows i _ x0 x1 x2 _ _ _ _ _ _ hc2 _ rfl hL6 (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ _ (by rw [show View.read (Elt F) arg11.view (arg11.view.writes (Elt F) _ _) = k0_pay20 from View.read_writes_full _ _ _ _ _]; intro j _; rfl)) (by rw [load_block arg3 harg3 x0]))
        (Eq.trans (b := kRow i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1]))
        (Eq.trans (b := vT i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2]))
        (Eq.trans (b := k0_pay1 (qScale i (word i c xt0) (View.readAt (Elt F) arg3.view (Rect.unit (s := S1024x640) ![0, 0] S1024x640.size inb_S1024x640_S1024x640_0_0).toLoadRect (harg3.unread x0))) (kScale i (word i c xt0) (View.readAt (Elt F) arg4.view (Rect.unit (s := S1024x640) ![0, 0] S1024x640.size inb_S1024x640_S1024x640_0_0).toLoadRect (harg4.unread x1)))) (View.read_writes_full _ _ _ _ _) (by rw [load_block arg3 harg3 x0, load_block arg4 harg4 x1]))
        (Eq.trans (b := k0_pay2 (vScale i (word i c xt0) (View.readAt (Elt F) arg5.view (Rect.unit (s := S1024x640) ![0, 0] S1024x640.size inb_S1024x640_S1024x640_0_0).toLoadRect (harg5.unread x2)))) (View.read_writes_full _ _ _ _ _) (by rw [load_block arg5 harg5 x2]))
    isplitl [H8]
    · iexists _; isplitr; swap; · iexact H8
      ipureintro; exact (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ _ (by rw [show View.read (Elt F) arg11.view (arg11.view.writes (Elt F) _ _) = k0_pay20 from View.read_writes_full _ _ _ _ _]; intro j _; rfl)) (by rw [load_block arg3 harg3 x0]))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

end Cert.KernelIdeal.Hand

end
-- ==== Proof.IPointB.lean ====
/- One grid point of the kernel, on whole staging memrefs and scratch at any contents: it leaves in the output blocks what `IVal`
   computes from the input blocks and the table, and the padded copy of q's codes in its scratch. A later point needs that
   scratch zero off the bands; the first point fills it. One statement per case of the two conditions. -/
module

public import proofs.«01_k».proof.Proof.IPointA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A later point, its patch with a valid row. -/
theorem point_later_valid (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0) (xs : Vec F S40x128x1024 .fp8e4m3) (hxs : OffZero xs)
    (hc0 : ¬ cond0_0 i) (hc2 : k0_cond2 i (word i c xt0) = 1#1) (hc3 : ¬ k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ owns (c : Thread nD τ) arg6 fullShare (qOut i (word i c xt0) x0) ∗ owns (c : Thread nD τ) arg7 fullShare (kOut i (word i c xt0) x1) ∗ owns (c : Thread nD τ) arg8 fullShare (vOut i (word i c xt0) x2) ∗ owns (c : Thread nD τ) arg9 fullShare (scOut i (word i c xt0) x0 x1 x2) ∗ owns (c : Thread nD τ) arg10 fullShare (oOut i (word i c xt0) x0 x1 x2) ∗ owns (c : Thread nD τ) arg11 fullShare (qzOf (qCode i (word i c xt0) x0)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact Eq.trans (b := qOut i (word i c xt0) (View.readAt (Elt F) arg3.view (Rect.unit (s := S1024x640) ![0, 0] S1024x640.size inb_S1024x640_S1024x640_0_0).toLoadRect (harg3.unread x0))) (View.read_writes_full _ _ _ _ _) (by rw [load_block arg3 harg3 x0])
    isplitl [H4]
    · iexists _; isplitr; swap; · iexact H4
      ipureintro; exact Eq.trans (b := kOut i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1])
    isplitl [H5]
    · iexists _; isplitr; swap; · iexact H5
      ipureintro; exact Eq.trans (b := vOut i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2])
    isplitl [H6]
    · iexists _; isplitr; swap; · iexact H6
      ipureintro; exact Eq.trans (b := scOut i (word i c xt0) (View.readAt (Elt F) arg3.view (Rect.unit (s := S1024x640) ![0, 0] S1024x640.size inb_S1024x640_S1024x640_0_0).toLoadRect (harg3.unread x0)) (View.readAt (Elt F) arg4.view (Rect.unit (s := S1024x640) ![0, 0] S1024x640.size inb_S1024x640_S1024x640_0_0).toLoadRect (harg4.unread x1)) (View.readAt (Elt F) arg5.view (Rect.unit (s := S1024x640) ![0, 0] S1024x640.size inb_S1024x640_S1024x640_0_0).toLoadRect (harg5.unread x2))) (View.read_writes_full _ _ _ _ _) (by rw [load_block arg3 harg3 x0, load_block arg4 harg4 x1, load_block arg5 harg5 x2])
    isplitl [H7]
    · iexists _; isplitr; swap; · iexact H7
      ipureintro; refine Eq.trans (b := k0_pay5 (View.read (Elt F) arg14.view fL0)) ((View.read_writes_full _ _ _ _ _).trans (congrArg k0_pay5 (View.readAt_full _ _ _))) ?_
      exact attn_of_rows i _ x0 x1 x2 _ _ _ _ _ _ hc2 _ rfl hL6 (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ [] (by rw [View.writes_nil, hf8]; exact hxs)) (by rw [load_block arg3 harg3 x0]))
        (Eq.trans (b := kRow i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1]))
        (Eq.trans (b := vT i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2]))
        (Eq.trans (b := k0_pay1 (qScale i (word i c xt0) (View.readAt (Elt F) arg3.view (Rect.unit (s := S1024x640) ![0, 0] S1024x640.size inb_S1024x640_S1024x640_0_0).toLoadRect (harg3.unread x0))) (kScale i (word i c xt0) (View.readAt (Elt F) arg4.view (Rect.unit (s := S1024x640) ![0, 0] S1024x640.size inb_S1024x640_S1024x640_0_0).toLoadRect (harg4.unread x1)))) (View.read_writes_full _ _ _ _ _) (by rw [load_block arg3 harg3 x0, load_block arg4 harg4 x1]))
        (Eq.trans (b := k0_pay2 (vScale i (word i c xt0) (View.readAt (Elt F) arg5.view (Rect.unit (s := S1024x640) ![0, 0] S1024x640.size inb_S1024x640_S1024x640_0_0).toLoadRect (harg5.unread x2)))) (View.read_writes_full _ _ _ _ _) (by rw [load_block arg5 harg5 x2]))
    isplitl [H8]
    · iexists _; isplitr; swap; · iexact H8
      ipureintro; exact (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ [] (by rw [View.writes_nil, hf8]; exact hxs)) (by rw [load_block arg3 harg3 x0]))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

end Cert.KernelIdeal.Hand

end
-- ==== Proof.IPointC.lean ====
/- One grid point of the kernel, on whole staging memrefs and scratch at any contents: it leaves in the output blocks what `IVal`
   computes from the input blocks and the table, and the padded copy of q's codes in its scratch. A later point needs that
   scratch zero off the bands; the first point fills it. One statement per case of the two conditions. -/
module

public import proofs.«01_k».proof.Proof.IPointA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first point of the grid, its patch without a valid row. -/
theorem point_first_idle (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0)
    (hc0 : cond0_0 i) (hc2 : ¬ k0_cond2 i (word i c xt0) = 1#1) (hc3 : k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ owns (c : Thread nD τ) arg6 fullShare (qOut i (word i c xt0) x0) ∗ owns (c : Thread nD τ) arg7 fullShare (kOut i (word i c xt0) x1) ∗ owns (c : Thread nD τ) arg8 fullShare (vOut i (word i c xt0) x2) ∗ owns (c : Thread nD τ) arg9 fullShare (scOut i (word i c xt0) x0 x1 x2) ∗ owns (c : Thread nD τ) arg10 fullShare (oOut i (word i c xt0) x0 x1 x2) ∗ owns (c : Thread nD τ) arg11 fullShare (qzOf (qCode i (word i c xt0) x0)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact Eq.trans (b := qOut i (word i c xt0) (View.readAt (Elt F) arg3.view (Rect.unit (s := S1024x640) ![0, 0] S1024x640.size inb_S1024x640_S1024x640_0_0).toLoadRect (harg3.unread x0))) (View.read_writes_full _ _ _ _ _) (by rw [load_block arg3 harg3 x0])
    isplitl [H4]
    · iexists _; isplitr; swap; · iexact H4
      ipureintro; exact Eq.trans (b := kOut i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1])
    isplitl [H5]
    · iexists _; isplitr; swap; · iexact H5
      ipureintro; exact Eq.trans (b := vOut i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2])
    isplitl [H6]
    · iexists _; isplitr; swap; · iexact H6
      ipureintro; exact Eq.trans (b := scOut i (word i c xt0) (View.readAt (Elt F) arg3.view (Rect.unit (s := S1024x640) ![0, 0] S1024x640.size inb_S1024x640_S1024x640_0_0).toLoadRect (harg3.unread x0)) (View.readAt (Elt F) arg4.view (Rect.unit (s := S1024x640) ![0, 0] S1024x640.size inb_S1024x640_S1024x640_0_0).toLoadRect (harg4.unread x1)) (View.readAt (Elt F) arg5.view (Rect.unit (s := S1024x640) ![0, 0] S1024x640.size inb_S1024x640_S1024x640_0_0).toLoadRect (harg5.unread x2))) (View.read_writes_full _ _ _ _ _) (by rw [load_block arg3 harg3 x0, load_block arg4 harg4 x1, load_block arg5 harg5 x2])
    isplitl [H7]
    · iexists _; isplitr; swap; · iexact H7
      ipureintro; unfold oOut; rw [if_neg hc2]; exact View.read_writes_full _ _ _ _ _
    isplitl [H8]
    · iexists _; isplitr; swap; · iexact H8
      ipureintro; exact (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ _ (by rw [show View.read (Elt F) arg11.view (arg11.view.writes (Elt F) _ _) = k0_pay20 from View.read_writes_full _ _ _ _ _]; intro j _; rfl)) (by rw [load_block arg3 harg3 x0]))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

set_option maxHeartbeats 4000000 in
/-- A later point, its patch without a valid row. -/
theorem point_later_idle (c : Dev nD) (i : grid0.Coords) (arg3 : Memref sig .tc .vmem S1024x640 .bf16) (harg3 : arg3.IsWhole) (arg4 : Memref sig .tc .vmem S1024x640 .bf16) (harg4 : arg4.IsWhole) (arg5 : Memref sig .tc .vmem S1024x640 .bf16) (harg5 : arg5.IsWhole) (arg6 : Memref sig .tc .vmem S1x1x40x16x1024 .fp8e4m3) (harg6 : arg6.IsWhole) (arg7 : Memref sig .tc .vmem S1x1x40x16x1024 .fp8e4m3) (harg7 : arg7.IsWhole) (arg8 : Memref sig .tc .vmem S1x1x40x16x1024 .fp8e4m3) (harg8 : arg8.IsWhole) (arg9 : Memref sig .tc .vmem S1x1x8x640 .f32) (harg9 : arg9.IsWhole) (arg10 : Memref sig .tc .vmem S1024x640 .bf16) (harg10 : arg10.IsWhole) (arg11 : Memref sig .tc .vmem S40x128x1024 .fp8e4m3) (harg11 : arg11.IsWhole) (arg12 : Memref sig .tc .vmem S1024x640 .fp8e4m3) (harg12 : arg12.IsWhole) (arg13 : Memref sig .tc .vmem S640x1024 .bf16) (harg13 : arg13.IsWhole) (arg14 : Memref sig .tc .vmem S640x1024 .f32) (harg14 : arg14.IsWhole) (arg15 : Memref sig .tc .vmem S640x128 .f32) (harg15 : arg15.IsWhole) (arg16 : Memref sig .tc .vmem S640x128 .f32) (harg16 : arg16.IsWhole) (x0 : Vec F S1024x640 .bf16) (x1 : Vec F S1024x640 .bf16) (x2 : Vec F S1024x640 .bf16) (xt0 : TbBuf0 (F := F) c tbM0_0) (xs : Vec F S40x128x1024 .fp8e4m3) (hxs : OffZero xs)
    (hc0 : ¬ cond0_0 i) (hc2 : ¬ k0_cond2 i (word i c xt0) = 1#1) (hc3 : k0_cond3 i (word i c xt0) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0 ∗ (iprop(owns (c : Thread nD τ) arg3 fullShare x0 ∗ owns (c : Thread nD τ) arg4 fullShare x1 ∗ owns (c : Thread nD τ) arg5 fullShare x2 ∗ owns (c : Thread nD τ) arg6 fullShare (qOut i (word i c xt0) x0) ∗ owns (c : Thread nD τ) arg7 fullShare (kOut i (word i c xt0) x1) ∗ owns (c : Thread nD τ) arg8 fullShare (vOut i (word i c xt0) x2) ∗ owns (c : Thread nD τ) arg9 fullShare (scOut i (word i c xt0) x0 x1 x2) ∗ owns (c : Thread nD τ) arg10 fullShare (oOut i (word i c xt0) x0 x1 x2) ∗ owns (c : Thread nD τ) arg11 fullShare (qzOf (qCode i (word i c xt0) x0)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0_patch_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_patch_attention_eq_skeleton]; unfold cc0_patch_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, HT0, Hk⟩
    obtain rfl := harg3.eq_unread hf0; obtain rfl := harg4.eq_unread hf1; obtain rfl := harg5.eq_unread hf2
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact Eq.trans (b := qOut i (word i c xt0) (View.readAt (Elt F) arg3.view (Rect.unit (s := S1024x640) ![0, 0] S1024x640.size inb_S1024x640_S1024x640_0_0).toLoadRect (harg3.unread x0))) (View.read_writes_full _ _ _ _ _) (by rw [load_block arg3 harg3 x0])
    isplitl [H4]
    · iexists _; isplitr; swap; · iexact H4
      ipureintro; exact Eq.trans (b := kOut i (word i c xt0) (View.readAt (Elt F) arg4.view (Rect.unit (s := S1024x640) ![0, 0] S1024x640.size inb_S1024x640_S1024x640_0_0).toLoadRect (harg4.unread x1))) (View.read_writes_full _ _ _ _ _) (by rw [load_block arg4 harg4 x1])
    isplitl [H5]
    · iexists _; isplitr; swap; · iexact H5
      ipureintro; exact Eq.trans (b := vOut i (word i c xt0) (View.readAt (Elt F) arg5.view (Rect.unit (s := S1024x640) ![0, 0] S1024x640.size inb_S1024x640_S1024x640_0_0).toLoadRect (harg5.unread x2))) (View.read_writes_full _ _ _ _ _) (by rw [load_block arg5 harg5 x2])
    isplitl [H6]
    · iexists _; isplitr; swap; · iexact H6
      ipureintro; exact Eq.trans (b := scOut i (word i c xt0) (View.readAt (Elt F) arg3.view (Rect.unit (s := S1024x640) ![0, 0] S1024x640.size inb_S1024x640_S1024x640_0_0).toLoadRect (harg3.unread x0)) (View.readAt (Elt F) arg4.view (Rect.unit (s := S1024x640) ![0, 0] S1024x640.size inb_S1024x640_S1024x640_0_0).toLoadRect (harg4.unread x1)) (View.readAt (Elt F) arg5.view (Rect.unit (s := S1024x640) ![0, 0] S1024x640.size inb_S1024x640_S1024x640_0_0).toLoadRect (harg5.unread x2))) (View.read_writes_full _ _ _ _ _) (by rw [load_block arg3 harg3 x0, load_block arg4 harg4 x1, load_block arg5 harg5 x2])
    isplitl [H7]
    · iexists _; isplitr; swap; · iexact H7
      ipureintro; unfold oOut; rw [if_neg hc2]; exact View.read_writes_full _ _ _ _ _
    isplitl [H8]
    · iexists _; isplitr; swap; · iexact H8
      ipureintro; exact (Eq.trans (b := qzOf (qCode i (word i c xt0) (View.readAt (Elt F) arg3.view (Rect.unit (s := S1024x640) ![0, 0] S1024x640.size inb_S1024x640_S1024x640_0_0).toLoadRect (harg3.unread x0)))) (bands_read arg11.view _ _ _ [] (by rw [View.writes_nil, hf8]; exact hxs)) (by rw [load_block arg3 harg3 x0]))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HT0

end Cert.KernelIdeal.Hand

end
-- ==== Proof.IData.lean ====
/- The run of the kernel with what it leaves: every fair execution ends, every counter at zero, the arguments unchanged and
   each output block holding what `IVal` computes at its grid point. Between points the invariant is that the scratch of
   q's padded codes is zero off the bands. -/
module

public import proofs.«01_k».proof.Proof.IPointB
public import proofs.«01_k».proof.Proof.IPointC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Between points: the scratch of q's padded codes zero off the bands once the first point has filled it, the other scratch
    at some contents, the generator register. -/
def scratchInv (c : Dev nD) (k : ℕ) : sProp 𝕄 :=
  iprop(((∃ xs, owns (c : Thread nD τ) scM0_0 fullShare xs ∗ ⌜k ≠ 0 → OffZero (F := F) xs⌝) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

/-- What window `w`'s block holds after point `t`: the inputs as staged, the outputs as `IVal` computes them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => qOut (grid0.coords t) (word (grid0.coords t) c (tbl m 0)) (iblk m hO c 0 t)
    | ⟨4, _⟩ => kOut (grid0.coords t) (word (grid0.coords t) c (tbl m 0)) (iblk m hO c 1 t)
    | ⟨5, _⟩ => vOut (grid0.coords t) (word (grid0.coords t) c (tbl m 0)) (iblk m hO c 2 t)
    | ⟨6, _⟩ => scOut (grid0.coords t) (word (grid0.coords t) c (tbl m 0)) (iblk m hO c 0 t) (iblk m hO c 1 t) (iblk m hO c 2 t)
    | ⟨7, _⟩ => oOut (grid0.coords t) (word (grid0.coords t) c (tbl m 0)) (iblk m hO c 0 t) (iblk m hO c 1 t) (iblk m hO c 2 t)
  Φ t := iprop(scratchInv c t.val ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = qOut (grid0.coords t) (word (grid0.coords t) c (tbl m 0)) (iblk m hO c 0 t) := by dsimp only [dats]; try rfl
theorem after0_4 (hO : Ok m) (c : Dev nD) (t : Fin (cfgM m hO).N) : (dats m hO 0 c).after 4 t = kOut (grid0.coords t) (word (grid0.coords t) c (tbl m 0)) (iblk m hO c 1 t) := by dsimp only [dats]; try rfl
theorem after0_5 (hO : Ok m) (c : Dev nD) (t : Fin (cfgM m hO).N) : (dats m hO 0 c).after 5 t = vOut (grid0.coords t) (word (grid0.coords t) c (tbl m 0)) (iblk m hO c 2 t) := by dsimp only [dats]; try rfl
theorem after0_6 (hO : Ok m) (c : Dev nD) (t : Fin (cfgM m hO).N) : (dats m hO 0 c).after 6 t = scOut (grid0.coords t) (word (grid0.coords t) c (tbl m 0)) (iblk m hO c 0 t) (iblk m hO c 1 t) (iblk m hO c 2 t) := by dsimp only [dats]; try rfl
theorem after0_7 (hO : Ok m) (c : Dev nD) (t : Fin (cfgM m hO).N) : (dats m hO 0 c).after 7 t = oOut (grid0.coords t) (word (grid0.coords t) c (tbl m 0)) (iblk m hO c 0 t) (iblk m hO c 1 t) (iblk m hO c 2 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 4000000 in
/-- The body at any point: one of the four cases of `IPointA`, `IPointB`, `IPointC`. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3, after0_4, after0_5, after0_6, after0_7]
  rw [show (dats m hO 0 c).Φ t.succ = iprop(scratchInv c (t.val + 1) ∗ Pipeline.ΦT pre0 (tbl m) c) from rfl,
    show (dats m hO 0 c).Φ t.castSucc = iprop(scratchInv c t.val ∗ Pipeline.ΦT pre0 (tbl m) c) from rfl, PhiT0_eq]
  unfold scratchInv
  iintro ⟨⟨⟨⟨⟨%xs, HS0, %hx⟩, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : cond0_0 (grid0.coords t) <;> by_cases h2 : k0_cond2 (grid0.coords t) (word (grid0.coords t) c (tbl m 0)) = 1#1
  · skip
    iapply (point_first_valid c (grid0.coords t) _ _ _ _ _ _ _ _ _ _ _ _ _ _ _ _ _ _ _ _ _ _ _ _ _ _ _ _ (iblk m hO c 0 t) (iblk m hO c 1 t) (iblk m hO c 2 t) (tbl m 0) h0 h2 (fun h => (cond3_iff _ _).mp h h2) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexists _; isplitl [HS0]; · iexact HS0
            ipureintro; exact fun _ => offZero_qzOf _
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    iapply (point_first_idle c (grid0.coords t) _ _ _ _ _ _ _ _ _ _ _ _ _ _ _ _ _ _ _ _ _ _ _ _ _ _ _ _ (iblk m hO c 0 t) (iblk m hO c 1 t) (iblk m hO c 2 t) (tbl m 0) h0 h2 ((cond3_iff _ _).mpr h2) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexists _; isplitl [HS0]; · iexact HS0
            ipureintro; exact fun _ => offZero_qzOf _
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    have hxs : OffZero xs := hx (fun h => h0 ((hcond0_0 t).mpr (by have e : t.val = 0 := h; rw [e])))
    iapply (point_later_valid c (grid0.coords t) _ _ _ _ _ _ _ _ _ _ _ _ _ _ _ _ _ _ _ _ _ _ _ _ _ _ _ _ (iblk m hO c 0 t) (iblk m hO c 1 t) (iblk m hO c 2 t) (tbl m 0) xs hxs h0 h2 (fun h => (cond3_iff _ _).mp h h2) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexists _; isplitl [HS0]; · iexact HS0
            ipureintro; exact fun _ => offZero_qzOf _
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    have hxs : OffZero xs := hx (fun h => h0 ((hcond0_0 t).mpr (by have e : t.val = 0 := h; rw [e])))
    iapply (point_later_idle c (grid0.coords t) _ _ _ _ _ _ _ _ _ _ _ _ _ _ _ _ _ _ _ _ _ _ _ _ _ _ _ _ (iblk m hO c 0 t) (iblk m hO c 1 t) (iblk m hO c 2 t) (tbl m 0) xs hxs h0 h2 ((cond3_iff _ _).mpr h2) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, H7, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexists _; isplitl [HS0]; · iexact HS0
            ipureintro; exact fun _ => offZero_qzOf _
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated; window 7 is never idle. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  dsimp only
  rw [show idle0 (tbl m) 7 ((pcfg0.gridAt (tbl m)).coords t) = false from idle7 _ _]
  exact .rfl

/-- Before the first point the invariant is the scratch at some contents. -/
theorem hin (hO : Ok m) (c : Dev nD) : iprop(Pipeline.ΦA spec0 c ∗ Pipeline.ΦT pre0 (tbl m) c) ⊢ (dats m hO 0 c).Φ 0 := by
  show iprop(Pipeline.ΦA spec0 c ∗ Pipeline.ΦT pre0 (tbl m) c) ⊢ iprop(scratchInv c 0 ∗ Pipeline.ΦT pre0 (tbl m) c)
  rw [PhiA0_eq]; unfold scratchInv
  iintro ⟨⟨⟨⟨%d, HS0⟩, HS⟩, Hg⟩, HT⟩
  isplitl [HS0 HS Hg]
  · isplitl [HS0 HS]
    · isplitl [HS0]
      · iexists _; isplitl [HS0]; · iexact HS0
        ipureintro; exact fun h => absurd rfl h
      iexact HS
    iexact Hg
  iexact HT

/-- After the last point the invariant gives the scratch and the generator register back. -/
theorem hout (hO : Ok m) (c : Dev nD) : (dats m hO 0 c).Φ (Fin.last (cfgM m hO).N) ⊢ Pipeline.ΦA spec0 c := by
  show iprop(scratchInv c _ ∗ Pipeline.ΦT pre0 (tbl m) c) ⊢ _
  rw [PhiA0_eq]; unfold scratchInv
  iintro ⟨⟨⟨⟨%d, HS0, -⟩, HS⟩, Hg⟩, -⟩
  isplitl [HS0 HS]
  · isplitl [HS0]
    · iexists _; iexact HS0
    iexact HS
  iexact Hg

/-! ## The run -/

-- `θ_run_frameP_track`'s implicit arguments are found by unifying its conclusion with this one, which takes unfolding plain
-- definitions in a metavariable's type
set_option backward.isDefEq.respectTransparency.types false in
/-- THE LAUNCH: every fair execution ends with every output array as the blocks leave it, every other buffer as launched, and
    every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.KernelIdeal.Hand

end
-- ==== Proof.Frames.lean ====
/- The frame claims of the kernel, of its idealization and of the reference, and the claim that the idealization keeps the
   kernel: its two named constants. -/
module

public import proofs.«01_k».proof.Defs
public import proofs.«01_k».proof.Proof.KFrame
public import proofs.«01_k».proof.Proof.IData
public import proofs.«01_k».proof.Proof.Gen.ReferenceIdeal
public import proofs.«01_k».proof.Proof.Gen.ReferenceIdeal.Frame

@[expose] public section

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (ρ : Dev nD → PrngReg) (hO : Ok m)

/-- Where a run ends, the arguments are as launched: the point counts are no window's array, and the windows of the other
    three write nothing back. -/
theorem args_kept {r : PUnit × MemSt nD τ sig (Elt Ideal)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide : main_arg0 ∈ Pipeline.restRefs sig spec0)).trans (V_main_arg0 m c),
    ((h c).1 0).trans (((dats m hO 0 c).arrAt_in 0 rfl _).trans ((A_eq m hO c 0).trans (V_main_arg1 m c))),
    ((h c).1 1).trans (((dats m hO 0 c).arrAt_in 1 rfl _).trans ((A_eq m hO c 1).trans (V_main_arg2 m c))),
    ((h c).1 2).trans (((dats m hO 0 c).arrAt_in 2 rfl _).trans ((A_eq m hO c 2).trans (V_main_arg3 m c)))⟩

/-- Every fair execution ends, with the arguments as launched and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m trivial h.1, h.2⟩) (run_main_quiescent m ρ trivial)

end Cert.KernelIdeal.Hand

namespace Cert.Pre_finite.Gen

/-- The shape facts of the precondition. -/
instance facts : Cert.Pre_finite.Facts where
  bitsLt_bf16_f32 := by decide
  bcast_S_S116736x640 := by decide

end Cert.Pre_finite.Gen

namespace Cert.Own

open Idealize.ShloMosaic Idealize.SL.Sem

/-- The kernel's windows read no table, so every table content is admissible. -/
theorem frame_kernel : Cert.quiescent_Kernel := fun m g _ => Cert.Kernel.Hand.frame (F := Bits) m g trivial

theorem frame_kernelIdeal : Cert.quiescent_KernelIdeal := fun m g _ => Cert.KernelIdeal.Hand.frame m g
theorem frame_kernelIdeal_finite : Cert.quiescent_KernelIdeal_pre_finite := fun m g _ => Cert.KernelIdeal.Hand.frame m g

theorem frame_referenceIdeal : Cert.quiescent_ReferenceIdeal := fun m g _ => Cert.ReferenceIdeal.Gen.frame m g
theorem frame_referenceIdeal_finite : Cert.quiescent_ReferenceIdeal_pre_finite := fun m g _ => Cert.ReferenceIdeal.Gen.frame m g

theorem preserves : Cert.preserves_Kernel_KernelIdeal :=
  ⟨IdealRules.named_const.statement Cert.KernelIdeal.κ "quarter_log2e" .f32 0x3EB8AA3B#32 (((1 / 4) * (Real.log 2)⁻¹ : ℝ) : EReal) rfl,
    IdealRules.named_const.statement Cert.KernelIdeal.κ "mask" .f32 0xF149F2CA#32 ⊥ rfl⟩

end Cert.Own

end
-- ==== Proof.Spec.lean ====
/- The numbers both programs compute, patch by patch, over the extended reals: the rows that count, the power-of-two scales,
   the codes, and the attention output. -/
module

public import Idealize.ShloMosaic.PureOps.Ideal
public import Idealize.ShloMosaic.Lib.Pointwise

@[expose] public section

noncomputable section

namespace Cert.Own

open Idealize.ShloMosaic

/-- The position, as a word, of row `r` of patch `p`: the first patch starts 512 rows before the sequence. -/
def posW (p : Fin 57) (r : Fin 1024) : BitVec 32 := IntOp.subi (BitVec.ofNat 32 (p.val * 1024 + r.val)) 512#32

/-- Whether the row lies in the sequence. -/
def insideB (p : Fin 57) (r : Fin 1024) : BitVec 1 :=
  IntOp.andi (IntOp.cmpi .sge (posW p r) 0#32) (IntOp.cmpi .slt (posW p r) 57344#32)

/-- Whether the row is one of the batch row's `n` points. -/
def validB (n : BitVec 32) (p : Fin 57) (r : Fin 1024) : BitVec 1 :=
  IntOp.andi (IntOp.cmpi .sge (posW p r) 0#32) (IntOp.cmpi .slt (posW p r) n)

/-- The column of channel `d` of head `h`. -/
def lane (h : Fin 40) (d : Fin 16) : Fin 640 := ⟨h.val * 16 + d.val, by omega⟩

/-- The head of a column. -/
def headOf (l : Fin 640) : Fin 40 := ⟨l.val / 16, by omega⟩

section Quant

variable (n : BitVec 32) (p : Fin 57) (x : Fin 1024 → Fin 640 → EReal)

/-- The patch with the rows outside the sequence zeroed. -/
def xin (r : Fin 1024) (l : Fin 640) : EReal := Scalar.select (insideB p r) (x r l) 0

/-- What a row adds to the maximum: its size if it is a point. -/
def size (r : Fin 1024) (l : Fin 640) : EReal :=
  Scalar.select (validB n p r) (FloatOps.absf (F := Ideal) (φ := .f32) (xin p x r l)) 0

/-- The largest size in a head, over 448. -/
def amax (h : Fin 40) : EReal := (⨆ r : Fin 1024, ⨆ d : Fin 16, size n p x r (lane h d)) * Ideal.ofBits .f32 0x3B124925#32

/-- The power of two of exponent `k - 125`. -/
def pow2 (k : Fin 253) : EReal := ((Real.rpow 2 ((k.val : ℝ) - 125) : ℝ) : EReal)

/-- The least power of two above `a`, or one where `a` is below the normal numbers. -/
def scaleOf (a : EReal) : EReal :=
  if a < Ideal.ofBits .f32 0x00800000#32 then 1 else ⨅ k : Fin 253, if a < pow2 k then pow2 k else ⊤

/-- A head's scale. -/
def scale (h : Fin 40) : EReal := scaleOf (amax n p x h)

/-- A code: the scaled element, clipped to ±448. -/
def code (r : Fin 1024) (l : Fin 640) : EReal :=
  min (Ideal.ofBits .f32 0x43E00000#32) (max (Ideal.ofBits .f32 0xC3E00000#32) (xin p x r l * Ideal.div 1 (scale n p x (headOf l))))

end Quant

section Attn

variable (n : BitVec 32) (p : Fin 57) (q k v : Fin 1024 → Fin 640 → EReal)

/-- A score of head `h`, query `i`, key `j`. -/
def score (h : Fin 40) (i j : Fin 1024) : EReal :=
  (∑ d : Fin 16, code n p q i (lane h d) * code n p k j (lane h d)) * (scale n p q h * scale n p k h * Ideal.ofBits .f32 0x3E800000#32)

/-- The same, minus infinity where the key is not a point. -/
def masked (h : Fin 40) (i j : Fin 1024) : EReal := Scalar.select (validB n p j) (score n p q k h i j) ⊥

/-- The largest score of a query. -/
def top (h : Fin 40) (i : Fin 1024) : EReal := ⨆ j : Fin 1024, masked n p q k h i j

/-- The unnormalised weight. -/
def weight (h : Fin 40) (i j : Fin 1024) : EReal := Ideal.exp (masked n p q k h i j - top n p q k h i)

/-- The attention output, zero where the query is not a point. -/
def attn (i : Fin 1024) (l : Fin 640) : EReal :=
  Scalar.select (validB n p i)
    ((∑ j : Fin 1024, Ideal.div (weight n p q k (headOf l) i j) (∑ j' : Fin 1024, weight n p q k (headOf l) i j') * code n p v j l)
      * scale n p v (headOf l)) 0

end Attn

end Cert.Own

end
-- ==== Proof.Expo.lean ====
/- The binary search for a float's exponent field, over the extended reals. -/
module

public import proofs.«01_k».proof.Proof.Spec

@[expose] public section

noncomputable section

namespace Cert.Own

open Idealize.ShloMosaic

/-- The float with exponent field `c` and no fraction bits. -/
def fieldF (c : ℕ) : EReal := if c = 0 then 0 else if c < 255 then (((2 : ℝ) ^ ((c : ℤ) - 127) : ℝ) : EReal) else ⊤

/-- A positive pattern without fraction bits. -/
theorem ieee_field (b : BitVec 32) (c : ℕ) (e0 : (b.extractLsb' (8 + 23) 1 == 1#1) = false) (e1 : (b.extractLsb' 23 8).toNat = c)
    (e2 : (b.extractLsb' 0 23).toNat = 0) (h : c < 256) : Ideal.ieee 8 23 b = fieldF c := by
  unfold Ideal.ieee
  dsimp only
  rw [e0, e1, e2]
  unfold fieldF
  rcases eq_or_ne c 0 with h0 | h0
  · subst h0; norm_num
  rcases eq_or_ne c 255 with h5 | h5
  · subst h5; norm_num
  rw [if_neg (by norm_num; exact h5), if_neg h0, if_neg h0, if_pos (show c < 255 by omega)]
  congr 1
  rw [show ((c : ℤ) - 127) = 23 + ((c : ℤ) - (2 ^ (8 - 1) - 1) - (23 : ℕ)) by norm_num, zpow_add₀ (by norm_num)]
  norm_num

theorem field_bits : ∀ c : Fin 256, ((BitVec.ofNat 32 c.val <<< 23).extractLsb' (8 + 23) 1 == 1#1) = false
    ∧ ((BitVec.ofNat 32 c.val <<< 23).extractLsb' 23 8).toNat = c.val ∧ ((BitVec.ofNat 32 c.val <<< 23).extractLsb' 0 23).toNat = 0 := by
  decide +kernel

theorem ofBits_field (c : ℕ) (h : c < 256) : Ideal.ofBits .f32 (BitVec.ofNat 32 c <<< 23) = fieldF c :=
  have f := field_bits ⟨c, h⟩
  ieee_field _ c f.1 f.2.1 f.2.2 h

theorem fieldF_mono {a b : ℕ} (h : a ≤ b) : fieldF a ≤ fieldF b := by
  unfold fieldF
  split_ifs <;> first | exact le_top | omega | rfl | skip
  · exact EReal.coe_nonneg.2 (by positivity)
  · exact EReal.coe_le_coe_iff.2 (zpow_le_zpow_right₀ (by norm_num) (by omega))

/-! ## The constants of both programs -/

theorem ofBits_ninf : Ideal.ofBits .f32 0xFF800000#32 = ⊥ := by
  show Ideal.ieee 8 23 0xFF800000#32 = ⊥
  simp [Ideal.ieee]
theorem ofBits_448 : Ideal.ofBits .f32 0x43E00000#32 = ((448 : ℝ) : EReal) := by
  simp [Ideal.ofBits, Ideal.ieee, -EReal.coe_mul]; norm_num
theorem ofBits_n448 : Ideal.ofBits .f32 0xC3E00000#32 = ((-448 : ℝ) : EReal) := by
  simp [Ideal.ofBits, Ideal.ieee, -EReal.coe_mul, -EReal.coe_neg]; norm_num
theorem ofBits_quarter : Ideal.ofBits .f32 0x3E800000#32 = ((1 / 4 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_c448 : Ideal.ofBits .f32 0x3B124925#32 = ((9586981 * 2 ^ (-32 : ℤ) : ℝ) : EReal) := by
  simp [Ideal.ofBits, Ideal.ieee, -EReal.coe_mul]
theorem ofBits_bf16max : Ideal.ofBits .f32 0x7F7F0000#32 = ((16711680 * 2 ^ (104 : ℤ) : ℝ) : EReal) := by
  simp [Ideal.ofBits, Ideal.ieee, -EReal.coe_mul]

/-- A maximum reduction from minus infinity is the supremum. -/
theorem fold_max_iSup {ι : Type} [Fintype ι] (f : ι → EReal) : Finset.fold max (Ideal.ofBits .f32 0xFF800000#32) f Finset.univ = ⨆ i, f i := by
  rw [ofBits_ninf, ← Finset.sup_univ_eq_iSup]; rfl

/-- One step of the search. -/
def stepS (a : EReal) (e w : BitVec 32) : BitVec 32 := if Ideal.ofBits .f32 ((e + w) <<< 23) ≤ a then e + w else e

/-- The search. -/
def expoS (a : EReal) : BitVec 32 :=
  stepS a (stepS a (stepS a (stepS a (stepS a (stepS a (stepS a (stepS a 0#32 128#32) 64#32) 32#32) 16#32) 8#32) 4#32) 2#32) 1#32

/-- What the search keeps: the field found, and the next one at the present step above it, bracket the number. -/
theorem stepS_inv (a : EReal) (ha : a < ⊤) (e c w : ℕ) (he : e + 2 * w ≤ 256) (hc : BitVec.ofNat 32 e = BitVec.ofNat 32 c ∧ c = e)
    (h0 : fieldF e ≤ a) (h1 : a < fieldF (e + 2 * w)) (hw : 0 < w) :
    ∃ e', stepS a (BitVec.ofNat 32 e) (BitVec.ofNat 32 w) = BitVec.ofNat 32 e' ∧ e' + w ≤ 256 ∧ fieldF e' ≤ a ∧ a < fieldF (e' + w) := by
  unfold stepS
  rw [← BitVec.ofNat_add, ofBits_field _ (by omega)]
  split_ifs with h
  · exact ⟨e + w, rfl, by omega, h, by rw [show e + w + w = e + 2 * w by omega]; exact h1⟩
  · exact ⟨e, rfl, by omega, h0, not_le.1 h⟩

/-- The search finds the exponent field of a nonnegative finite number. -/
theorem expoS_spec (a : EReal) (h0 : 0 ≤ a) (ha : a < ⊤) :
    ∃ e : ℕ, expoS a = BitVec.ofNat 32 e ∧ e < 255 ∧ fieldF e ≤ a ∧ a < fieldF (e + 1) := by
  obtain ⟨e1, E1, b1, l1, u1⟩ := stepS_inv a ha 0 0 128 (by omega) ⟨rfl, rfl⟩ (by simpa [fieldF] using h0) (by simpa [fieldF] using ha) (by omega)
  obtain ⟨e2, E2, b2, l2, u2⟩ := stepS_inv a ha e1 e1 64 (by omega) ⟨rfl, rfl⟩ l1 u1 (by omega)
  obtain ⟨e3, E3, b3, l3, u3⟩ := stepS_inv a ha e2 e2 32 (by omega) ⟨rfl, rfl⟩ l2 u2 (by omega)
  obtain ⟨e4, E4, b4, l4, u4⟩ := stepS_inv a ha e3 e3 16 (by omega) ⟨rfl, rfl⟩ l3 u3 (by omega)
  obtain ⟨e5, E5, b5, l5, u5⟩ := stepS_inv a ha e4 e4 8 (by omega) ⟨rfl, rfl⟩ l4 u4 (by omega)
  obtain ⟨e6, E6, b6, l6, u6⟩ := stepS_inv a ha e5 e5 4 (by omega) ⟨rfl, rfl⟩ l5 u5 (by omega)
  obtain ⟨e7, E7, b7, l7, u7⟩ := stepS_inv a ha e6 e6 2 (by omega) ⟨rfl, rfl⟩ l6 u6 (by omega)
  obtain ⟨e8, E8, b8, l8, u8⟩ := stepS_inv a ha e7 e7 1 (by omega) ⟨rfl, rfl⟩ l7 u7 (by omega)
  refine ⟨e8, ?_, ?_, l8, u8⟩
  · unfold expoS; rw [← E8, ← E7, ← E6, ← E5, ← E4, ← E3, ← E2, ← E1]
  · by_contra h
    have : e8 = 255 := by omega
    subst this
    exact absurd (lt_of_le_of_lt l8 ha) (by simp [fieldF])

end Cert.Own

end
-- ==== Proof.KHead.lean ====
/- What one head of the kernel reads and stores, over the extended reals: each block of 256 queries is the same weighted mean
   of the head's values. -/
module

public import proofs.«01_k».proof.Proof.IVal
public import proofs.«01_k».proof.Proof.Expo
public import Idealize.ShloMosaic.Lib.Pointwise

@[expose] public section

set_option maxRecDepth 16384

noncomputable section

namespace Cert.KernelIdeal.Hand

open Cert.KernelIdeal.Gen Cert.Own
open Idealize.ShloMosaic Idealize.SL.Sem

/-- One element of a head's output: query at position `w`, its products `D` with the keys, the scales `C` and `S`, and the
    values `V` of its column. -/
def blk (n w : BitVec 32) (vb : Fin 1024 → BitVec 1) (D : Fin 1024 → EReal) (C S : EReal) (V : Fin 1024 → EReal) : EReal :=
  Scalar.select (IntOp.andi (IntOp.cmpi .sge w 0#32) (IntOp.cmpi .slt w n))
    ((∑ j, V j * Ideal.exp2 (Scalar.select (vb j) (D j * C) ⊥ - ⨆ j', Scalar.select (vb j') (D j' * C) ⊥))
      * Ideal.div S (∑ j, Ideal.exp2 (Scalar.select (vb j) (D j * C) ⊥ - ⨆ j', Scalar.select (vb j') (D j' * C) ⊥))) 0

variable (n : BitVec 32) (v3 : BitVec 32) (v21 : IVec S1024x1 1) (Xq : FVec Ideal S40x128x1024 .fp8e4m3) (Xk : FVec Ideal S1024x640 .fp8e4m3)
  (Xv : FVec Ideal S640x1024 .bf16) (Xc Xs : FVec Ideal S640x128 .f32) (k : Fin k0_t1_loop.trips)

theorem mask_bot : (Named.named κ "mask" 0xF149F2CA#32 : Ideal .f32) = (⊥ : EReal) := rfl

theorem block0 (a : Fin 16) (b : Fin 256) : o0 n v3 v21 Xq Xk Xv Xc Xs k (ix2 a b)
    = blk n (IntOp.addi (IntOp.addi (BitVec.ofNat 32 b.val) v3) 0#32) (fun j => v21 (ix2 j 0))
        (fun j => ∑ c : Fin 128, hk Xk k (ix2 j c) * hq0 Xq k (ix3 0 c b)) (k0_pay7 (hc Xc k) (ix2 0 0)) (k0_pay8 (hc Xs k) (ix2 0 0))
        (fun j => hv Xv k (ix2 a j)) := by
  pointwise [o0, k0_pay10, k0_pay9, k0_pay3]
  simp only [fold_max_iSup, mask_bot]
  rfl
theorem block1 (a : Fin 16) (b : Fin 256) : o1 n v3 v21 Xq Xk Xv Xc Xs k (ix2 a b)
    = blk n (IntOp.addi (IntOp.addi (BitVec.ofNat 32 b.val) v3) 256#32) (fun j => v21 (ix2 j 0))
        (fun j => ∑ c : Fin 128, hk Xk k (ix2 j c) * hq1 Xq k (ix3 0 c b)) (k0_pay7 (hc Xc k) (ix2 0 0)) (k0_pay8 (hc Xs k) (ix2 0 0))
        (fun j => hv Xv k (ix2 a j)) := by
  pointwise [o1, k0_pay13, k0_pay11, k0_pay12, k0_pay3]
  simp only [fold_max_iSup, mask_bot]
  rfl
theorem block2 (a : Fin 16) (b : Fin 256) : o2 n v3 v21 Xq Xk Xv Xc Xs k (ix2 a b)
    = blk n (IntOp.addi (IntOp.addi (BitVec.ofNat 32 b.val) v3) 512#32) (fun j => v21 (ix2 j 0))
        (fun j => ∑ c : Fin 128, hk Xk k (ix2 j c) * hq2 Xq k (ix3 0 c b)) (k0_pay7 (hc Xc k) (ix2 0 0)) (k0_pay8 (hc Xs k) (ix2 0 0))
        (fun j => hv Xv k (ix2 a j)) := by
  pointwise [o2, k0_pay15, k0_pay14, k0_pay3]
  simp only [fold_max_iSup, mask_bot]
  rfl
theorem block3 (a : Fin 16) (b : Fin 256) : o3 n v3 v21 Xq Xk Xv Xc Xs k (ix2 a b)
    = blk n (IntOp.addi (IntOp.addi (BitVec.ofNat 32 b.val) v3) 768#32) (fun j => v21 (ix2 j 0))
        (fun j => ∑ c : Fin 128, hk Xk k (ix2 j c) * hq3 Xq k (ix3 0 c b)) (k0_pay7 (hc Xc k) (ix2 0 0)) (k0_pay8 (hc Xs k) (ix2 0 0))
        (fun j => hv Xv k (ix2 a j)) := by
  pointwise [o3, k0_pay4, k0_pay17, k0_pay18, k0_pay16, k0_pay3]
  simp only [fold_max_iSup, mask_bot]
  rfl

/-- The loop's 40 heads. -/
def headIx (h : Fin 40) : Fin k0_t1_loop.trips := ⟨h.val, by rw [trips_eq]; exact h.isLt⟩

theorem offs : ∀ h : Fin 40, k0_off2 (headIx h) 0 = 0 ∧ k0_off2 (headIx h) 1 = 128 * (h.val / 8) ∧ k0_off3 (headIx h) 0 = h.val * 16 ∧ k0_off3 (headIx h) 1 = 0
    ∧ k0_off4 (headIx h) 0 = h.val * 16 ∧ k0_off4 (headIx h) 1 = 0
    ∧ k0_off5 (headIx h) 0 = h.val ∧ k0_off7 (headIx h) 0 = h.val ∧ k0_off9 (headIx h) 0 = h.val ∧ k0_off11 (headIx h) 0 = h.val := by
  decide +kernel

variable (h : Fin 40)

theorem hk_at (j : Fin 1024) (c : Fin 128) : hk Xk (headIx h) (ix2 j c) = Xk (ix2 j ⟨128 * (h.val / 8) + c.val, by omega⟩) := by
  obtain ⟨e0, e1, -⟩ := offs h
  refine congrArg Xk (funext fun a => Fin.ext ?_)
  fin_cases a
  · show k0_off2 (headIx h) 0 + 1 * j.val = j.val
    omega
  · show k0_off2 (headIx h) 1 + 1 * c.val = 128 * (h.val / 8) + c.val
    omega
theorem hv_at (a : Fin 16) (j : Fin 1024) : hv Xv (headIx h) (ix2 a j) = Xv (ix2 (lane h a) j) := by
  obtain ⟨-, -, e0, e1, -⟩ := offs h
  refine congrArg Xv (funext fun x => Fin.ext ?_)
  fin_cases x
  · show k0_off3 (headIx h) 0 + 1 * a.val = h.val * 16 + a.val
    omega
  · show k0_off3 (headIx h) 1 + 1 * j.val = j.val
    omega
theorem hc_at (X : FVec Ideal S640x128 .f32) (a : Fin 16) (j : Fin 128) : hc X (headIx h) (ix2 a j) = X (ix2 (lane h a) j) := by
  obtain ⟨-, -, -, -, e0, e1, -⟩ := offs h
  refine congrArg X (funext fun x => Fin.ext ?_)
  fin_cases x
  · show k0_off4 (headIx h) 0 + 1 * a.val = h.val * 16 + a.val
    omega
  · show k0_off4 (headIx h) 1 + 1 * j.val = j.val
    omega
theorem hq0_at (c : Fin 128) (b : Fin 256) : hq0 Xq (headIx h) (ix3 0 c b) = Xq (ix3 h c ⟨b.val, by omega⟩) := by
  obtain ⟨-, -, -, -, -, -, e0, -⟩ := offs h
  refine congrArg Xq (funext fun x => Fin.ext ?_)
  fin_cases x
  · show k0_off5 (headIx h) 0 + 1 * 0 = h.val
    omega
  · show 0 + 1 * c.val = c.val
    omega
  · show 0 + 1 * b.val = b.val
    omega
theorem hq1_at (c : Fin 128) (b : Fin 256) : hq1 Xq (headIx h) (ix3 0 c b) = Xq (ix3 h c ⟨b.val + 256, by omega⟩) := by
  obtain ⟨-, -, -, -, -, -, -, e0, -⟩ := offs h
  refine congrArg Xq (funext fun x => Fin.ext ?_)
  fin_cases x
  · show k0_off7 (headIx h) 0 + 1 * 0 = h.val
    omega
  · show 0 + 1 * c.val = c.val
    omega
  · show 256 + 1 * b.val = b.val + 256
    omega
theorem hq2_at (c : Fin 128) (b : Fin 256) : hq2 Xq (headIx h) (ix3 0 c b) = Xq (ix3 h c ⟨b.val + 512, by omega⟩) := by
  obtain ⟨-, -, -, -, -, -, -, -, e0, -⟩ := offs h
  refine congrArg Xq (funext fun x => Fin.ext ?_)
  fin_cases x
  · show k0_off9 (headIx h) 0 + 1 * 0 = h.val
    omega
  · show 0 + 1 * c.val = c.val
    omega
  · show 512 + 1 * b.val = b.val + 512
    omega
theorem hq3_at (c : Fin 128) (b : Fin 256) : hq3 Xq (headIx h) (ix3 0 c b) = Xq (ix3 h c ⟨b.val + 768, by omega⟩) := by
  obtain ⟨-, -, -, -, -, -, -, -, -, e0⟩ := offs h
  refine congrArg Xq (funext fun x => Fin.ext ?_)
  fin_cases x
  · show k0_off11 (headIx h) 0 + 1 * 0 = h.val
    omega
  · show 0 + 1 * c.val = c.val
    omega
  · show 768 + 1 * b.val = b.val + 768
    omega

/-- The largest of a head's 16 × 128 equal numbers. -/
theorem const_max7 (X : FVec Ideal S640x128 .f32) (z : EReal) (hz : ∀ a j, X (ix2 (lane h a) j) = z) : k0_pay7 (hc X (headIx h)) (ix2 0 0) = z := by
  pointwise [k0_pay7]
  simp only [fold_max_iSup, hc_at, hz]
  exact ciSup_const
theorem const_max8 (X : FVec Ideal S640x128 .f32) (z : EReal) (hz : ∀ a j, X (ix2 (lane h a) j) = z) : k0_pay8 (hc X (headIx h)) (ix2 0 0) = z := by
  pointwise [k0_pay8]
  simp only [fold_max_iSup, hc_at, hz]
  exact ciSup_const

theorem ofBits_fp8_zero : (Scalar.ofBits .fp8e4m3 0x00#8 : Ideal .fp8e4m3) = (0 : EReal) := by
  show Ideal.e4m3fn 0#8 = 0
  simp [Ideal.e4m3fn]

/-- The product over a head group's 128 columns is the product over the head's 16. -/
theorem band_sum (y : FVec Ideal S640x1024 .fp8e4m3) (j q : Fin 1024) :
    (∑ c : Fin 128, Xk (ix2 j ⟨128 * (h.val / 8) + c.val, by omega⟩) * qzOf y (ix3 h c q)) = ∑ d : Fin 16, y (ix2 (lane h d) q) * Xk (ix2 j (lane h d)) := by
  symm
  refine Finset.sum_of_injOn (fun d : Fin 16 => (⟨16 * (h.val % 8) + d.val, by omega⟩ : Fin 128)) ?_ (fun _ _ => Finset.mem_coe.2 (Finset.mem_univ _)) ?_ ?_
  · intro d _ d' _ e
    have := congrArg Fin.val e
    exact Fin.ext (by dsimp only at this; omega)
  · intro c _ hc
    have hn : ¬ inBand h.val c.val := fun hb => hc ⟨⟨c.val - 16 * (h.val % 8), by have := hb.2; omega⟩, Finset.mem_coe.2 (Finset.mem_univ _), Fin.ext (by have := hb.1; show 16 * (h.val % 8) + (c.val - 16 * (h.val % 8)) = c.val; omega)⟩
    have hz : qzOf y (ix3 h c q) = (0 : EReal) := (offZero_qzOf y _ hn).trans ofBits_fp8_zero
    rw [hz, mul_zero]
  · intro d _
    have hb : inBand h.val (16 * (h.val % 8) + d.val) := ⟨by omega, by omega⟩
    have hl : (⟨128 * (h.val / 8) + (16 * (h.val % 8) + d.val), by omega⟩ : Fin 640) = lane h d := Fin.ext (by show 128 * (h.val / 8) + (16 * (h.val % 8) + d.val) = h.val * 16 + d.val; omega)
    have hy : qzOf y (ix3 h ⟨16 * (h.val % 8) + d.val, by omega⟩ q) = y (ix2 (lane h d) q) := by
      refine (if_pos hb).trans ?_
      show y (ix2 (⟨128 * (h.val / 8) + (16 * (h.val % 8) + d.val), _⟩ : Fin 640) q) = _
      rw [hl]
    dsimp only
    rw [hy, hl, mul_comm]

end Cert.KernelIdeal.Hand

end
-- ==== Proof.IUnify.lean ====
/- The body quantises q, k and v by the same computation, cut into payloads at different places: one name for it. -/
module

public import proofs.«01_k».proof.Proof.IVal
public import Idealize.ShloMosaic.Lib.Pipeline.Value
public import Idealize.ShloMosaic.Lib.Pointwise

@[expose] public section

set_option maxRecDepth 16384

noncomputable section

namespace Cert.KernelIdeal.Hand

open Cert.KernelIdeal.Gen
open Idealize.ShloMosaic Idealize.SL.Sem

variable {F : FTy → Type} [FloatOps F] [Named F]

/-- One step of the search for an exponent field: `w` is added if the float of that field is still at most `a`. -/
def stepV (a : FVec F S8x640 .f32) (e : IVec S8x640 32) (w : BitVec 32) : IVec S8x640 32 :=
  select (cmpf .oge a (bitcastToFloat .f32 (shli (addi e (broadcast S8x640 w)) (broadcast S8x640 23#32)))) (addi e (broadcast S8x640 w)) e

/-- The exponent field of `a`. -/
def expoV (a : FVec F S8x640 .f32) : IVec S8x640 32 :=
  stepV a (stepV a (stepV a (stepV a (stepV a (stepV a (stepV a (stepV a (broadcast S8x640 0#32) 128#32) 64#32) 32#32) 16#32) 8#32) 4#32) 2#32) 1#32

section

variable (i : grid0.Coords) (n : Elt F .i32) (x : Vec F S1024x640 .bf16)

theorem qExpo_eq : qExpo i n x = expoV (qMax i n x) := rfl

theorem kMax_eq : kMax i n x = qMax i n x := rfl
theorem kScale_eq : kScale i n x = qScale i n x := by
  show _ = k0_pay33 (expoV (qMax i n x)) 0#32
  rw [← kMax_eq]; rfl
theorem kRow_eq (r : Fin 1024) (l : Fin 640) : kRow i n x (ix2 r l) = qCode i n x (ix2 l r) := by
  show _ = k0_pay34 (k0_pay23 i x) (expoV (qMax i n x)) 0#32 (ix2 l r)
  rw [← kMax_eq]
  show shapeCast S1024x640 (truncf .fp8e4m3 (k0_pay91 (kY i n x)) bitsLt_fp8e4m3_bf16) shapeCasts_S1024x640_S1024x640 (ix2 r l) = _
  rw [shapeCast_self]
  show truncf .fp8e4m3 (k0_pay91 (kY i n x)) bitsLt_fp8e4m3_bf16 (ix2 r l) = truncf .fp8e4m3 (transpose S640x1024 [1, 0] (k0_pay91 (kY i n x)) transposes_S1024x640_p1_0_S640x1024) bitsLt_fp8e4m3_bf16 (ix2 l r)
  pointwise
theorem kOut_eq : kOut i n x = qOut i n x := by
  show _ = k0_pay35 (k0_pay23 i x) (expoV (qMax i n x)) 0#32
  rw [← kMax_eq]; rfl

theorem vMax_eq : vMax i n x = qMax i n x := rfl
theorem vE_eq : vE i n x = k0_pay32 (qExpo i n x) 0#32 := by
  show _ = k0_pay32 (expoV (qMax i n x)) 0#32
  rw [← vMax_eq]; rfl
theorem vScale_eq : vScale i n x = qScale i n x := by
  unfold vScale; rw [vE_eq]; rfl
theorem vOut_eq : vOut i n x = qOut i n x := by
  unfold vOut; rw [vE_eq]; rfl
theorem vT_eq (l : Fin 640) (r : Fin 1024) : vT i n x (ix2 l r) = extf .bf16 (qCode i n x) bitsLt_fp8e4m3_bf16 (ix2 l r) := by
  unfold vT; rw [vE_eq]
  show shapeCast S640x1024 (extf .bf16 (qCode i n x) bitsLt_fp8e4m3_bf16) shapeCasts_S640x1024_S640x1024 (ix2 l r) = _
  rw [shapeCast_self]

end

end Cert.KernelIdeal.Hand

end
-- ==== Proof.Scale.lean ====
/- The kernel's scale words are the reference's power of two and its inverse. -/
module

public import proofs.«01_k».proof.Proof.Expo

@[expose] public section

noncomputable section

namespace Cert.Own

open Idealize.ShloMosaic

/-- The kernel's exponent of a field: zero for the zero field. -/
def expE (e : BitVec 32) : BitVec 32 := Scalar.select (IntOp.cmpi .eq e 0#32) (0#32) (IntOp.subi e 126#32)

theorem fieldF_of {c : ℕ} (h0 : 0 < c) (h1 : c < 255) : fieldF c = (((2 : ℝ) ^ ((c : ℤ) - 127) : ℝ) : EReal) := by
  unfold fieldF; rw [if_neg (by omega), if_pos h1]

theorem pow2_eq (k : Fin 253) : pow2 k = fieldF (k.val + 2) := by
  rw [fieldF_of (by omega) (by omega)]
  unfold pow2
  congr 1
  rw [show ((k.val : ℝ) - 125) = (((k.val : ℤ) - 125 : ℤ) : ℝ) by push_cast; ring]
  rw [Real.rpow_eq_pow, Real.rpow_intCast]
  congr 1
  push_cast; ring

theorem ofBits_tiny : Ideal.ofBits .f32 0x00800000#32 = fieldF 1 := ofBits_field 1 (by norm_num)

/-- The least power of two above a number between two neighbouring ones. -/
theorem scaleOf_of (a : EReal) (e : ℕ) (he : e < 253) (h0 : fieldF e ≤ a) (h1 : a < fieldF (e + 1)) :
    scaleOf a = if e = 0 then 1 else fieldF (e + 1) := by
  unfold scaleOf
  rw [ofBits_tiny]
  by_cases hz : e = 0
  · subst hz; rw [if_pos h1, if_pos rfl]
  rw [if_neg (not_lt.2 ((fieldF_mono (by omega)).trans h0)), if_neg hz]
  apply le_antisymm
  · refine (iInf_le _ (⟨e - 1, by omega⟩ : Fin 253)).trans ?_
    rw [pow2_eq, show e - 1 + 2 = e + 1 by omega, if_pos h1]
  · refine le_iInf fun k => ?_
    rw [pow2_eq]
    split_ifs with h
    · refine fieldF_mono ?_
      by_contra hk
      exact absurd (lt_of_lt_of_le h (fieldF_mono (show k.val + 2 ≤ e by omega))) (not_lt.2 h0)
    · exact le_top

theorem up_word : ∀ e : Fin 253, IntOp.addi (expE (BitVec.ofNat 32 e.val)) 127#32 = BitVec.ofNat 32 (if e.val = 0 then 127 else e.val + 1) := by
  decide +kernel
theorem down_word : ∀ e : Fin 253, IntOp.addi (IntOp.subi (0#32) (expE (BitVec.ofNat 32 e.val))) 127#32 = BitVec.ofNat 32 (if e.val = 0 then 127 else 253 - e.val) := by
  decide +kernel
theorem shl23 (b : BitVec 32) : IntOp.shli ArithUnit.vector b 23#32 = b <<< 23 := rfl

/-- The kernel's scale, its inverse, and that it is a positive real. -/
theorem scale_words (a : EReal) (h0 : 0 ≤ a) (ha : a < fieldF 253) :
    Ideal.ofBits .f32 (IntOp.shli ArithUnit.vector (IntOp.addi (expE (expoS a)) 127#32) 23#32) = scaleOf a
    ∧ Ideal.ofBits .f32 (IntOp.shli ArithUnit.vector (IntOp.addi (IntOp.subi (0#32) (expE (expoS a))) 127#32) 23#32) = Ideal.div 1 (scaleOf a)
    ∧ ∃ r : ℝ, 0 < r ∧ scaleOf a = (r : EReal) := by
  obtain ⟨e, E, _, l, u⟩ := expoS_spec a h0 (lt_of_lt_of_le ha le_top)
  have he : e < 253 := by
    by_contra h
    exact absurd (lt_of_lt_of_le ha (fieldF_mono (show 253 ≤ e by omega))) (not_lt.2 l)
  rw [E, shl23, shl23, up_word ⟨e, he⟩, down_word ⟨e, he⟩, scaleOf_of a e he l u, ofBits_field _ (by dsimp only; split_ifs <;> omega),
    ofBits_field _ (by dsimp only; split_ifs <;> omega)]
  dsimp only
  by_cases hz : e = 0
  · subst hz
    rw [if_pos rfl, if_pos rfl, if_pos rfl, fieldF_of (by norm_num) (by norm_num)]
    have h1 : (((2 : ℝ) ^ (((127 : ℕ) : ℤ) - 127) : ℝ) : EReal) = 1 := by norm_num
    rw [h1]
    refine ⟨rfl, ?_, 1, one_pos, rfl⟩
    unfold Ideal.div; rw [if_neg one_ne_zero]; simp
  · rw [if_neg hz, if_neg hz, if_neg hz, fieldF_of (by omega) (by omega), fieldF_of (by omega) (by omega)]
    refine ⟨rfl, ?_, _, by positivity, rfl⟩
    unfold Ideal.div
    rw [if_neg (by norm_cast; positivity), one_mul, ← EReal.coe_inv, ← zpow_neg]
    congr 2
    omega

end Cert.Own

end
-- ==== Proof.KQuant.lean ====
/- One grid point's scales and codes, read over the extended reals, are the specification's. -/
module

public import proofs.«01_k».proof.Proof.IUnify
public import proofs.«01_k».proof.Proof.Scale

@[expose] public section

set_option maxRecDepth 16384

noncomputable section

namespace Cert.KernelIdeal.Hand

open Cert.KernelIdeal.Gen Cert.Own
open Idealize.ShloMosaic Idealize.SL.Sem

section

variable (i : grid0.Coords) (n : BitVec 32) (x : Vec Ideal S1024x640 .bf16) (p : Fin 57) (hp : (i 0).val = p.val)
include hp

/-- The block as rows and columns. -/
abbrev rowsOf (x : Vec Ideal S1024x640 .bf16) : Fin 1024 → Fin 640 → EReal := fun r l => x (ix2 r l)

theorem pos_eq (r : Fin 1024) : k0_pay19 i (ix2 r 0) = posW p r := by
  pointwise [k0_pay19]
  rw [hp]
  show BitVec.ofNat 32 r.val + (BitVec.ofNat 32 p.val * 1024#32 - 512#32) = BitVec.ofNat 32 (p.val * 1024 + r.val) - 512#32
  rw [BitVec.ofNat_add, BitVec.ofNat_mul, BitVec.sub_eq_add_neg, BitVec.sub_eq_add_neg]
  ac_rfl

theorem x_eq (r : Fin 1024) (l : Fin 640) : k0_pay23 i x (ix2 r l) = xin p (rowsOf x) r l := by
  pointwise [k0_pay23, k0_pay21]
  rw [pos_eq i p hp]; rfl

theorem valid_eq (r : Fin 1024) : k0_pay22 (F := Ideal) i n (ix2 r 0) = validB n p r := by
  pointwise [k0_pay22]
  rw [pos_eq i p hp]; rfl

theorem col_eq (s : Fin 8) (l : Fin 640) : k0_pay24 i n x (ix2 s l) = ⨆ r : Fin 1024, size n p (rowsOf x) r l := by
  pointwise [k0_pay24]
  rw [fold_max_iSup]
  refine iSup_congr fun r => ?_
  rw [valid_eq i n p hp, x_eq i x p hp]; rfl

end

/-- One step of the tree of maxima over the lanes of a head. -/
def roll (u w : BitVec 32) (y : FVec Ideal S8x640 .f32) : FVec Ideal S8x640 .f32 :=
  maximumf y (select (cmpi .eq (andi lanes (broadcast S8x640 w)) (broadcast S8x640 0#32)) (dynamicRotate 1 u none y rotates_S8x640_d1) (dynamicRotate 1 w none y rotates_S8x640_d1))

theorem qMax_roll (i : grid0.Coords) (n : BitVec 32) (x : Vec Ideal S1024x640 .bf16) :
    qMax i n x = mulf (roll 632#32 8#32 (roll 636#32 4#32 (roll 638#32 2#32 (roll 639#32 1#32 (k0_pay24 i n x))))) (broadcast S8x640 (Scalar.ofBits .f32 0x3B124925#32)) := rfl

/-- The largest over the lanes of one block of `w`. -/
def blockMax (w : ℕ) (f : Fin 640 → EReal) (l : Fin 640) : EReal := ⨆ j : Fin 640, ⨆ _ : j.val / w = l.val / w, f j

theorem blockMax_join (w : ℕ) (f : Fin 640 → EReal) (l l' : Fin 640)
    (h : ∀ j : ℕ, j / (2 * w) = l.val / (2 * w) ↔ (j / w = l.val / w ∨ j / w = l'.val / w)) :
    max (blockMax w f l) (blockMax w f l') = blockMax (2 * w) f l := by
  unfold blockMax
  rw [← iSup_sup_eq]
  refine iSup_congr fun j => ?_
  exact (iSup_or (s := fun _ => f j)).symm.trans (iSup_congr_Prop (h j.val).symm fun _ => rfl)

theorem roll_reads (u w : BitVec 32) (y : FVec Ideal S8x640 .f32) (s : Fin 8) (l : Fin 640) :
    roll u w y (ix2 s l) = max (y (ix2 s l)) (Scalar.select (IntOp.cmpi .eq (IntOp.andi (BitVec.ofNat 32 l.val) w) 0#32)
      (y (ix2 s ⟨(l.val + 640 - u.toNat % 640) % 640, Nat.mod_lt _ (by norm_num)⟩)) (y (ix2 s ⟨(l.val + 640 - w.toNat % 640) % 640, Nat.mod_lt _ (by norm_num)⟩))) := by
  pointwise [roll, lanes]

theorem and_words (w : ℕ) (hw : w = 1 ∨ w = 2 ∨ w = 4 ∨ w = 8) (l : Fin 640) :
    IntOp.cmpi .eq (IntOp.andi (BitVec.ofNat 32 l.val) (BitVec.ofNat 32 w)) 0#32 = if l.val / w % 2 = 0 then 1#1 else 0#1 := by
  have : ∀ l : Fin 640, (IntOp.cmpi .eq (IntOp.andi (BitVec.ofNat 32 l.val) (1#32)) 0#32 = if l.val / 1 % 2 = 0 then 1#1 else 0#1)
      ∧ (IntOp.cmpi .eq (IntOp.andi (BitVec.ofNat 32 l.val) (2#32)) 0#32 = if l.val / 2 % 2 = 0 then 1#1 else 0#1)
      ∧ (IntOp.cmpi .eq (IntOp.andi (BitVec.ofNat 32 l.val) (4#32)) 0#32 = if l.val / 4 % 2 = 0 then 1#1 else 0#1)
      ∧ (IntOp.cmpi .eq (IntOp.andi (BitVec.ofNat 32 l.val) (8#32)) 0#32 = if l.val / 8 % 2 = 0 then 1#1 else 0#1) := by decide +kernel
  rcases hw with rfl | rfl | rfl | rfl
  · exact (this l).1
  · exact (this l).2.1
  · exact (this l).2.2.1
  · exact (this l).2.2.2

theorem roll_block (w : ℕ) (hw : w = 1 ∨ w = 2 ∨ w = 4 ∨ w = 8) (f : Fin 640 → EReal) (y : FVec Ideal S8x640 .f32)
    (hy : ∀ s l, y (ix2 s l) = blockMax w f l) (s : Fin 8) (l : Fin 640) :
    roll (BitVec.ofNat 32 (640 - w)) (BitVec.ofNat 32 w) y (ix2 s l) = blockMax (2 * w) f l := by
  rw [roll_reads, and_words w hw, hy, hy, hy]
  have hl := l.isLt
  have e1 : (BitVec.ofNat 32 (640 - w)).toNat % 640 = 640 - w := by rcases hw with rfl | rfl | rfl | rfl <;> rfl
  have e2 : (BitVec.ofNat 32 w).toNat % 640 = w := by rcases hw with rfl | rfl | rfl | rfl <;> rfl
  by_cases h : l.val / w % 2 = 0
  · rw [if_pos h]
    show max _ (blockMax w f _) = _
    refine blockMax_join w f _ _ fun j => ?_
    dsimp only
    rw [e1]
    rcases hw with rfl | rfl | rfl | rfl <;> omega
  · rw [if_neg h]
    show max _ (blockMax w f _) = _
    refine blockMax_join w f _ _ fun j => ?_
    dsimp only
    rw [e2]
    rcases hw with rfl | rfl | rfl | rfl <;> omega

theorem blockMax_one (f : Fin 640 → EReal) (l : Fin 640) : blockMax 1 f l = f l := by
  unfold blockMax
  apply le_antisymm
  · refine iSup_le fun j => iSup_le fun h => ?_
    rw [Nat.div_one, Nat.div_one] at h
    rw [Fin.ext h]
  · exact le_iSup_of_le l (le_iSup_of_le rfl le_rfl)

theorem blockMax_head (f : Fin 640 → EReal) (l : Fin 640) : blockMax 16 f l = ⨆ d : Fin 16, f (lane (headOf l) d) := by
  unfold blockMax
  apply le_antisymm
  · refine iSup_le fun j => iSup_le fun h => ?_
    refine le_iSup_of_le (⟨j.val % 16, by omega⟩ : Fin 16) (le_of_eq (congrArg f (Fin.ext ?_)))
    show j.val = l.val / 16 * 16 + j.val % 16
    omega
  · refine iSup_le fun d => le_iSup_of_le (lane (headOf l) d) (le_iSup_of_le ?_ le_rfl)
    show (l.val / 16 * 16 + d.val) / 16 = _
    omega

section

variable (i : grid0.Coords) (n : BitVec 32) (x : Vec Ideal S1024x640 .bf16) (p : Fin 57) (hp : (i 0).val = p.val)
include hp

/-- The head maximum over 448. -/
theorem qMax_at (s : Fin 8) (l : Fin 640) : qMax i n x (ix2 s l) = amax n p (rowsOf x) (headOf l) := by
  rw [qMax_roll]
  show _ * _ = _
  have h1 : ∀ (s : Fin 8) (l : Fin 640), k0_pay24 i n x (ix2 s l) = blockMax 1 (fun l => ⨆ r : Fin 1024, size n p (rowsOf x) r l) l :=
    fun s l => by rw [blockMax_one, col_eq i n x p hp]
  have h2 := roll_block 1 (by norm_num) _ _ h1
  have h3 := roll_block 2 (by norm_num) _ _ h2
  have h4 := roll_block 4 (by norm_num) _ _ h3
  have h5 := roll_block 8 (by norm_num) _ _ h4
  unfold amax
  refine congrArg₂ _ ((h5 s l).trans ?_) rfl
  rw [show 2 * 8 = 16 from rfl, blockMax_head, iSup_comm]

theorem qExpo_at (s : Fin 8) (l : Fin 640) : qExpo i n x (ix2 s l) = expoS (amax n p (rowsOf x) (headOf l)) := by
  rw [← qMax_at i n x p hp s l, qExpo_eq]
  pointwise [expoV, stepV]
  rfl

variable (hlo : ∀ h, 0 ≤ amax n p (rowsOf x) h) (hhi : ∀ h, amax n p (rowsOf x) h < fieldF 253)
include hlo hhi

theorem qScale_at (s : Fin 8) (l : Fin 640) : qScale i n x (ix2 s l) = scale n p (rowsOf x) (headOf l) := by
  pointwise [qScale, k0_pay33, k0_pay32]
  rw [qExpo_at i n x p hp]
  exact (scale_words _ (hlo _) (hhi _)).1

theorem qCode_at (r : Fin 1024) (l : Fin 640) : qCode i n x (ix2 l r) = code n p (rowsOf x) r l := by
  pointwise [qCode, k0_pay34, k0_pay32]
  rw [qExpo_at i n x p hp, x_eq i x p hp]
  unfold code scale
  rw [← (scale_words _ (hlo (headOf l)) (hhi _)).2.1]
  rfl

end

end Cert.KernelIdeal.Hand

end
-- ==== Proof.AttnMath.lean ====
/- Softmax attention of one query over the extended reals: powers of two of scores measured in units of log 2, divided once at
   the end, against exponentials divided before the product. -/
module

public import proofs.«01_k».proof.Proof.Scale

@[expose] public section

noncomputable section

namespace Cert.Own

open Idealize.ShloMosaic

variable (vb : Fin 1024 → BitVec 1) (g : Fin 1024 → ℝ)

/-- The scores with the masked ones minus infinity. -/
def mask (j : Fin 1024) : EReal := Scalar.select (vb j) (g j : EReal) ⊥

theorem mask_of {vb : Fin 1024 → BitVec 1} {g : Fin 1024 → ℝ} {j : Fin 1024} (h : vb j = 1#1) : mask vb g j = (g j : EReal) := by
  exact if_pos h
theorem mask_not {vb : Fin 1024 → BitVec 1} {g : Fin 1024 → ℝ} {j : Fin 1024} (h : ¬ vb j = 1#1) : mask vb g j = ⊥ := by
  exact if_neg h

/-- With one score unmasked the maximum is one of the scores. -/
theorem mask_top (j0 : Fin 1024) (h0 : vb j0 = 1#1) :
    ∃ j : Fin 1024, vb j = 1#1 ∧ (⨆ i, mask vb g i) = (g j : EReal) ∧ ∀ i, vb i = 1#1 → g i ≤ g j := by
  obtain ⟨j, hj⟩ := exists_eq_ciSup_of_finite (f := mask vb g)
  have hv : vb j = 1#1 := by
    by_contra h
    have := le_iSup (mask vb g) j0
    rw [← hj, mask_not h, mask_of h0] at this
    exact absurd (le_bot_iff.1 this) (EReal.coe_ne_bot _)
  refine ⟨j, hv, by rw [← hj, mask_of hv], fun i hi => ?_⟩
  have := le_iSup (mask vb g) i
  rw [← hj, mask_of hv, mask_of hi] at this
  exact EReal.coe_le_coe_iff.1 this

/-- The weights as reals: a power of two of the scores over log 2 is the exponential of the scores. -/
theorem weights (j0 : Fin 1024) (h0 : vb j0 = 1#1) :
    ∃ E : Fin 1024 → ℝ, 0 < ∑ j, E j
      ∧ (∀ j, Ideal.exp2 (mask vb (fun j => g j * (Real.log 2)⁻¹) j - ⨆ i, mask vb (fun j => g j * (Real.log 2)⁻¹) i) = (E j : EReal))
      ∧ ∀ j, Ideal.exp (mask vb g j - ⨆ i, mask vb g i) = (E j : EReal) := by
  have hl : 0 < Real.log 2 := Real.log_pos (by norm_num)
  obtain ⟨a, ha, ea, ma⟩ := mask_top vb g j0 h0
  obtain ⟨b, hb, eb, mb⟩ := mask_top vb (fun j => g j * (Real.log 2)⁻¹) j0 h0
  have hab : g b = g a := le_antisymm (ma b hb) (le_of_mul_le_mul_right (mb a ha) (inv_pos.2 hl))
  refine ⟨fun j => if vb j = 1#1 then Real.exp (g j - g a) else 0, ?_, fun j => ?_, fun j => ?_⟩
  · refine Finset.sum_pos' (fun j _ => ?_) ⟨a, Finset.mem_univ _, ?_⟩
    · split_ifs; exacts [(Real.exp_pos _).le, le_rfl]
    · rw [if_pos ha]; exact Real.exp_pos _
  · rw [eb]; dsimp only
    by_cases h : vb j = 1#1
    · rw [mask_of h, if_pos h, ← EReal.coe_sub, Ideal.exp2_coe, Real.rpow_eq_pow, Real.rpow_def_of_pos (by norm_num), hab]
      congr 2
      field_simp
    · rw [mask_not h, if_neg h, EReal.bot_sub]; rfl
  · rw [ea]; dsimp only
    by_cases h : vb j = 1#1
    · rw [mask_of h, if_pos h, ← EReal.coe_sub]; rfl
    · rw [mask_not h, if_neg h, EReal.bot_sub]; rfl

theorem coe_sum (f : Fin 1024 → ℝ) : ((∑ j, f j : ℝ) : EReal) = ∑ j, (f j : EReal) := by
  induction (Finset.univ : Finset (Fin 1024)) using Finset.induction_on with
  | empty => rfl
  | insert a s h ih => rw [Finset.sum_insert h, Finset.sum_insert h, EReal.coe_add, ih]

/-- One output element: dividing the scale by the sum of weights, or the weights before the product. -/
theorem output_eq (j0 : Fin 1024) (h0 : vb j0 = 1#1) (v : Fin 1024 → ℝ) (s : ℝ) :
    (∑ j, (v j : EReal) * Ideal.exp2 (mask vb (fun j => g j * (Real.log 2)⁻¹) j - ⨆ i, mask vb (fun j => g j * (Real.log 2)⁻¹) i))
        * Ideal.div (s : EReal) (∑ j, Ideal.exp2 (mask vb (fun j => g j * (Real.log 2)⁻¹) j - ⨆ i, mask vb (fun j => g j * (Real.log 2)⁻¹) i))
      = (∑ j, Ideal.div (Ideal.exp (mask vb g j - ⨆ i, mask vb g i)) (∑ j', Ideal.exp (mask vb g j' - ⨆ i, mask vb g i)) * (v j : EReal)) * (s : EReal) := by
  obtain ⟨E, hE, e2, e1⟩ := weights vb g j0 h0
  simp only [e2, e1]
  rw [← coe_sum]
  have hne : ((∑ j, E j : ℝ) : EReal) ≠ 0 := by exact_mod_cast hE.ne'
  have hd : ∀ r : ℝ, Ideal.div (r : EReal) ((∑ j, E j : ℝ) : EReal) = ((r * (∑ j, E j)⁻¹ : ℝ) : EReal) := fun r => by
    unfold Ideal.div; rw [if_neg hne, ← EReal.coe_inv, ← EReal.coe_mul]
  simp only [hd, ← EReal.coe_mul]
  rw [← coe_sum, ← coe_sum, ← EReal.coe_mul, ← EReal.coe_mul]
  congr 1
  rw [Finset.sum_mul, Finset.sum_mul]
  exact Finset.sum_congr rfl fun j _ => by ring

end Cert.Own

end
-- ==== Proof.Bounds.lean ====
/- With bounded inputs, the maxima stay below the largest power of two and every code and scale is a real number. -/
module

public import proofs.«01_k».proof.Proof.Spec
public import proofs.«01_k».proof.Proof.Expo
public import proofs.«01_k».proof.Proof.Scale

@[expose] public section

noncomputable section

namespace Cert.Own

open Idealize.ShloMosaic

/-- Every element is a real number no larger than the largest bf16 number. -/
def Small (x : Fin 1024 → Fin 640 → EReal) : Prop := ∀ r l, ∃ y : ℝ, x r l = (y : EReal) ∧ |y| ≤ 16711680 * 2 ^ (104 : ℤ)

/-- What a size no larger than the largest bf16 number says. -/
theorem real_of_absf (e : EReal) (h : FloatOps.absf (F := Ideal) (φ := .f32) e ≤ Ideal.ofBits .f32 0x7F7F0000#32) :
    ∃ y : ℝ, e = (y : EReal) ∧ |y| ≤ 16711680 * 2 ^ (104 : ℤ) := by
  rw [ofBits_bf16max] at h
  have h' : max e (-e) ≤ ((16711680 * 2 ^ (104 : ℤ) : ℝ) : EReal) := h
  induction e using EReal.rec with
  | bot => exact absurd (top_le_iff.1 ((le_max_right _ _).trans h')) (EReal.coe_ne_top _)
  | top => exact absurd (top_le_iff.1 ((le_max_left _ _).trans h')) (EReal.coe_ne_top _)
  | coe y =>
    refine ⟨y, rfl, abs_le.2 ⟨?_, ?_⟩⟩
    · have := (le_max_right _ _).trans h'
      rw [← EReal.coe_neg, EReal.coe_le_coe_iff] at this
      linarith
    · exact EReal.coe_le_coe_iff.1 ((le_max_left _ _).trans h')

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

variable (n : BitVec 32) (p : Fin 57) (x : Fin 1024 → Fin 640 → EReal) (hx : Small x)
include hx

theorem xin_real (r : Fin 1024) (l : Fin 640) : ∃ y : ℝ, xin p x r l = (y : EReal) ∧ |y| ≤ 16711680 * 2 ^ (104 : ℤ) := by
  by_cases h : insideB p r = 1#1
  · obtain ⟨y, e, b⟩ := hx r l
    exact ⟨y, (if_pos h).trans e, b⟩
  · exact ⟨0, if_neg h, by rw [abs_zero]; positivity⟩

theorem size_bound (r : Fin 1024) (l : Fin 640) : 0 ≤ size n p x r l ∧ size n p x r l ≤ ((16711680 * 2 ^ (104 : ℤ) : ℝ) : EReal) := by
  obtain ⟨y, e, b⟩ := xin_real p x hx r l
  have ha : FloatOps.absf (F := Ideal) (φ := .f32) (xin p x r l) = ((|y| : ℝ) : EReal) := by
    rw [e]
    show max (y : EReal) (-(y : EReal)) = _
    rw [← EReal.coe_neg, ← coe_max]
    rfl
  unfold size
  rw [ha]
  by_cases h : validB n p r = 1#1
  · have : Scalar.select (validB n p r) ((|y| : ℝ) : EReal) 0 = ((|y| : ℝ) : EReal) := if_pos h
    rw [this]
    exact ⟨EReal.coe_nonneg.2 (abs_nonneg y), EReal.coe_le_coe_iff.2 b⟩
  · have : Scalar.select (validB n p r) ((|y| : ℝ) : EReal) 0 = 0 := if_neg h
    rw [this]
    exact ⟨le_rfl, EReal.coe_nonneg.2 (by positivity)⟩

theorem max_bound (h : Fin 40) : ∃ y : ℝ, (⨆ r : Fin 1024, ⨆ d : Fin 16, size n p x r (lane h d)) = (y : EReal) ∧ 0 ≤ y ∧ y ≤ 16711680 * 2 ^ (104 : ℤ) := by
  have h1 : 0 ≤ (⨆ r : Fin 1024, ⨆ d : Fin 16, size n p x r (lane h d)) :=
    (size_bound n p x hx 0 (lane h 0)).1.trans (le_iSup_of_le 0 (le_iSup_of_le 0 le_rfl))
  have h2 : (⨆ r : Fin 1024, ⨆ d : Fin 16, size n p x r (lane h d)) ≤ ((16711680 * 2 ^ (104 : ℤ) : ℝ) : EReal) :=
    iSup_le fun r => iSup_le fun d => (size_bound n p x hx r _).2
  generalize (⨆ r : Fin 1024, ⨆ d : Fin 16, size n p x r (lane h d)) = e at h1 h2
  induction e using EReal.rec with
  | bot => exact absurd h1 (by simp)
  | top => exact absurd (top_le_iff.1 h2) (EReal.coe_ne_top _)
  | coe y => exact ⟨y, rfl, EReal.coe_nonneg.1 h1, EReal.coe_le_coe_iff.1 h2⟩

theorem amax_bound (h : Fin 40) : 0 ≤ amax n p x h ∧ amax n p x h < fieldF 253 := by
  obtain ⟨y, e, y0, y1⟩ := max_bound n p x hx h
  unfold amax
  rw [e, ofBits_c448, ← EReal.coe_mul, fieldF_of (by norm_num) (by norm_num)]
  refine ⟨EReal.coe_nonneg.2 (by positivity), EReal.coe_lt_coe_iff.2 ?_⟩
  calc y * (9586981 * 2 ^ (-32 : ℤ)) ≤ 16711680 * 2 ^ (104 : ℤ) * (9586981 * 2 ^ (-32 : ℤ)) := by gcongr
    _ < (2 : ℝ) ^ (((253 : ℕ) : ℤ) - 127) := by norm_num

theorem scale_real (h : Fin 40) : ∃ s : ℝ, 0 < s ∧ scale n p x h = (s : EReal) :=
  (scale_words _ (amax_bound n p x hx h).1 (amax_bound n p x hx h).2).2.2

omit hx in
theorem code_real (r : Fin 1024) (l : Fin 640) : ∃ y : ℝ, code n p x r l = (y : EReal) := by
  unfold code
  rw [ofBits_448, ofBits_n448]
  generalize (xin p x r l * Ideal.div 1 (scale n p x (headOf l)) : EReal) = e
  induction e using EReal.rec with
  | bot => exact ⟨-448, by rw [max_bot_right, ← coe_min]; norm_num⟩
  | top => exact ⟨448, by rw [max_top_right, min_top_right]⟩
  | coe y => exact ⟨min 448 (max (-448) y), by rw [← coe_max, ← coe_min]⟩

end Cert.Own

end
-- ==== Proof.KAttn.lean ====
/- What one grid point of the kernel computes, over the extended reals: the attention output of its patch. -/
module

public import proofs.«01_k».proof.Proof.KHead
public import proofs.«01_k».proof.Proof.KQuant
public import proofs.«01_k».proof.Proof.AttnMath
public import proofs.«01_k».proof.Proof.Bounds
public import Idealize.ShloMosaic.Lib.Tactic.WordOmega

@[expose] public section

set_option maxRecDepth 16384

noncomputable section

namespace Cert.KernelIdeal.Hand

open Cert.KernelIdeal.Gen Cert.Own
open Idealize.ShloMosaic Idealize.SL.Sem

theorem coe_sum16 (f : Fin 16 → ℝ) : ((∑ j, f j : ℝ) : EReal) = ∑ j, (f j : EReal) := by
  induction (Finset.univ : Finset (Fin 16)) using Finset.induction_on with
  | empty => rfl
  | insert a s h ih => rw [Finset.sum_insert h, Finset.sum_insert h, EReal.coe_add, ih]

/-- The two ways of normalising, on the codes and scales of a patch. -/
theorem blk_attn (n : BitVec 32) (p : Fin 57) (q k v : Fin 1024 → Fin 640 → EReal) (hq : Small q) (hk : Small k) (hv : Small v)
    (h : Fin 40) (a : Fin 16) (b : Fin 1024) :
    blk n (posW p b) (validB n p) (fun j => ∑ d : Fin 16, code n p q b (lane h d) * code n p k j (lane h d))
      (scale n p q h * scale n p k h * (((1 / 4) * (Real.log 2)⁻¹ : ℝ) : EReal)) (scale n p v h) (fun j => code n p v j (lane h a))
      = attn n p q k v b (lane h a) := by
  have hh : headOf (lane h a) = h := Fin.ext (by show (h.val * 16 + a.val) / 16 = h.val; omega)
  by_cases hb : validB n p b = 1#1
  · obtain ⟨sq, -, eq⟩ := scale_real n p q hq h
    obtain ⟨sk, -, ek⟩ := scale_real n p k hk h
    obtain ⟨sv, -, ev⟩ := scale_real n p v hv h
    choose cq hcq using fun d : Fin 16 => code_real n p q b (lane h d)
    choose ck hck using fun (j : Fin 1024) (d : Fin 16) => code_real n p k j (lane h d)
    choose cv hcv using fun j : Fin 1024 => code_real n p v j (lane h a)
    have hD : ∀ j, (∑ d : Fin 16, code n p q b (lane h d) * code n p k j (lane h d)) = ((∑ d : Fin 16, cq d * ck j d : ℝ) : EReal) := fun j => by
      rw [coe_sum16]
      exact Finset.sum_congr rfl fun d _ => by rw [hcq, hck, EReal.coe_mul]
    have hs : ∀ j, score n p q k h b j = (((∑ d : Fin 16, cq d * ck j d) * (sq * sk * (1 / 4)) : ℝ) : EReal) := fun j => by
      unfold score
      rw [hD, eq, ek, ofBits_quarter, ← EReal.coe_mul, ← EReal.coe_mul, ← EReal.coe_mul]
    have hx : ∀ j, (∑ d : Fin 16, code n p q b (lane h d) * code n p k j (lane h d)) * (scale n p q h * scale n p k h * (((1 / 4) * (Real.log 2)⁻¹ : ℝ) : EReal))
        = ((((∑ d : Fin 16, cq d * ck j d) * (sq * sk * (1 / 4))) * (Real.log 2)⁻¹ : ℝ) : EReal) := fun j => by
      rw [hD, eq, ek, ← EReal.coe_mul, ← EReal.coe_mul, ← EReal.coe_mul]
      congr 1; ring
    have key := output_eq (validB n p) (fun j => (∑ d : Fin 16, cq d * ck j d) * (sq * sk * (1 / 4))) b hb cv sv
    unfold blk attn weight top masked
    refine congrArg (fun z => Scalar.select (validB n p b) z 0) ?_
    rw [hh]
    simp only [hx, hs, ev, hcv]
    exact key
  · exact (if_neg hb).trans (if_neg hb).symm

theorem pos_word (i : grid0.Coords) (p : Fin 57) (hp : (i 0).val = p.val) (b : ℕ) (o : ℕ) (hb : b + o < 1024) :
    IntOp.addi (IntOp.addi (BitVec.ofNat 32 b) (start i)) (BitVec.ofNat 32 o) = posW p ⟨b + o, hb⟩ := by
  unfold start posW
  rw [hp]
  show BitVec.ofNat 32 b + (BitVec.ofNat 32 p.val * 1024#32 - 512#32) + BitVec.ofNat 32 o = BitVec.ofNat 32 (p.val * 1024 + (b + o)) - 512#32
  rw [BitVec.ofNat_add, BitVec.ofNat_add, BitVec.ofNat_mul, BitVec.sub_eq_add_neg, BitVec.sub_eq_add_neg]
  ac_rfl

variable (i : grid0.Coords) (n : BitVec 32) (x0 x1 x2 : FVec Ideal S1024x640 .bf16) (p : Fin 57) (hp : (i 0).val = p.val)
  (h0 : Small (rowsOf x0)) (h1 : Small (rowsOf x1)) (h2 : Small (rowsOf x2))
include hp h0 h1 h2

theorem OT_at (b : Fin 1024) (l : Fin 640) :
    OT (F := Ideal) n (start i) (k0_pay22 (F := Ideal) i n) (qzOf (qCode i n x0)) (kRow i n x1) (vT i n x2)
      (k0_pay1 (qScale i n x0) (kScale i n x1)) (k0_pay2 (vScale i n x2)) (ix2 l b)
      = attn n p (rowsOf x0) (rowsOf x1) (rowsOf x2) b l := by
  obtain ⟨h, a, rfl⟩ : ∃ h a, l = lane h a := ⟨headOf l, ⟨l.val % 16, by omega⟩, Fin.ext (by show l.val = l.val / 16 * 16 + l.val % 16; omega)⟩
  have hh : ∀ a, headOf (lane h a) = h := fun a => Fin.ext (by show (h.val * 16 + a.val) / 16 = h.val; omega)
  have b0 := amax_bound n p _ h0
  have b1 := amax_bound n p _ h1
  have b2 := amax_bound n p _ h2
  have hC : (k0_pay7 (F := Ideal) (hc (k0_pay1 (qScale i n x0) (kScale i n x1)) (headIx h)) : FVec Ideal S1x1 .f32) (ix2 0 0)
      = scale n p (rowsOf x0) h * scale n p (rowsOf x1) h * (((1 / 4) * (Real.log 2)⁻¹ : ℝ) : EReal) :=
    const_max7 h _ _ fun a j => by
      pointwise [k0_pay1]
      rw [kScale_eq, qScale_at i n x0 p hp (fun h => (b0 h).1) (fun h => (b0 h).2), qScale_at i n x1 p hp (fun h => (b1 h).1) (fun h => (b1 h).2), hh]
      rfl
  have hS : (k0_pay8 (F := Ideal) (hc (k0_pay2 (vScale i n x2)) (headIx h)) : FVec Ideal S1x1 .f32) (ix2 0 0) = scale n p (rowsOf x2) h :=
    const_max8 h _ _ fun a j => by
      pointwise [k0_pay2]
      rw [vScale_eq, qScale_at i n x2 p hp (fun h => (b2 h).1) (fun h => (b2 h).2), hh]
  have hV : ∀ j, (hv (F := Ideal) (vT i n x2) (headIx h) : FVec Ideal S16x1024 .bf16) (ix2 a j) = code n p (rowsOf x2) j (lane h a) := fun j => by
    rw [hv_at, vT_eq]
    exact qCode_at i n x2 p hp (fun h => (b2 h).1) (fun h => (b2 h).2) j (lane h a)
  have hm : ∀ j, k0_pay22 (F := Ideal) i n (ix2 j 0) = validB n p j := fun j => valid_eq i n p hp j
  have hD : ∀ j, (∑ c : Fin 128, kRow (F := Ideal) i n x1 (ix2 j ⟨128 * (h.val / 8) + c.val, by omega⟩) * qzOf (qCode (F := Ideal) i n x0) (ix3 h c b))
      = ∑ d : Fin 16, code n p (rowsOf x0) b (lane h d) * code n p (rowsOf x1) j (lane h d) := fun j => by
    rw [band_sum]
    refine Finset.sum_congr rfl fun d _ => ?_
    rw [kRow_eq, qCode_at i n x0 p hp (fun h => (b0 h).1) (fun h => (b0 h).2), qCode_at i n x1 p hp (fun h => (b1 h).1) (fun h => (b1 h).2)]
  rw [← blk_attn n p _ _ _ h0 h1 h2 h a b]
  have hi : OT (F := Ideal) n (start i) (k0_pay22 (F := Ideal) i n) (qzOf (qCode i n x0)) (kRow i n x1) (vT i n x2)
      (k0_pay1 (qScale i n x0) (kScale i n x1)) (k0_pay2 (vScale i n x2)) (ix2 (lane h a) b)
      = oAt (F := Ideal) n (start i) (k0_pay22 (F := Ideal) i n) (qzOf (qCode i n x0)) (kRow i n x1) (vT i n x2)
      (k0_pay1 (qScale i n x0) (kScale i n x1)) (k0_pay2 (vScale i n x2)) (headIx h) a b := by
    have e1 : ∀ hh, (⟨(lane h a).val / 16, hh⟩ : Fin k0_t1_loop.trips) = headIx h := fun hh => Fin.ext (by show (h.val * 16 + a.val) / 16 = h.val; omega)
    have e2 : ∀ hh, (⟨(lane h a).val % 16, hh⟩ : Fin 16) = a := fun hh => Fin.ext (by show (h.val * 16 + a.val) % 16 = a.val; omega)
    exact congrArg₂ (fun u w => oAt (F := Ideal) n (start i) (k0_pay22 (F := Ideal) i n) (qzOf (qCode i n x0)) (kRow i n x1) (vT i n x2)
      (k0_pay1 (qScale i n x0) (kScale i n x1)) (k0_pay2 (vScale i n x2)) u w b) (e1 _) (e2 _)
  rw [hi]
  unfold oAt
  by_cases c0 : b.val < 256
  · rw [dif_pos c0, block0]
    simp only [hC, hS, hV, hm, hk_at, hq0_at]
    rw [pos_word i p hp b.val 0 (by omega)]
    simp only [hD]
    rfl
  rw [dif_neg c0]
  by_cases c1 : b.val < 512
  · have e : (⟨b.val - 256 + 256, by omega⟩ : Fin 1024) = b := Fin.ext (by show b.val - 256 + 256 = b.val; omega)
    rw [dif_pos c1, block1]
    simp only [hC, hS, hV, hm, hk_at, hq1_at, e]
    rw [pos_word i p hp (b.val - 256) 256 (by omega), e]
    simp only [hD]
  rw [dif_neg c1]
  by_cases c2 : b.val < 768
  · have e : (⟨b.val - 512 + 512, by omega⟩ : Fin 1024) = b := Fin.ext (by show b.val - 512 + 512 = b.val; omega)
    rw [dif_pos c2, block2]
    simp only [hC, hS, hV, hm, hk_at, hq2_at, e]
    rw [pos_word i p hp (b.val - 512) 512 (by omega), e]
    simp only [hD]
  · have e : (⟨b.val - 768 + 768, by omega⟩ : Fin 1024) = b := Fin.ext (by show b.val - 768 + 768 = b.val; omega)
    rw [dif_neg c2, block3]
    simp only [hC, hS, hV, hm, hk_at, hq3_at, e]
    rw [pos_word i p hp (b.val - 768) 768 (by omega), e]
    simp only [hD]

omit h0 h1 h2 in
/-- A patch that starts past the last point has none. -/
theorem no_point (hn : ¬ k0_cond2 i n = 1#1) (r : Fin 1024) : ¬ validB n p r = 1#1 := by
  intro hv
  apply hn
  have hlt := p.isLt
  have hr := r.isLt
  have t : ∀ c : Bool, BitVec.ofBool c = 1#1 → c = true := by decide
  have t2 : ∀ a b : BitVec 1, IntOp.andi a b = 1#1 → a = 1#1 ∧ b = 1#1 := by decide
  have e : ∀ z : ℕ, z < 2 ^ 30 → (IntOp.subi (BitVec.ofNat 32 z) 512#32).toInt = (z : ℤ) - 512 := fun z hz => by
    have e' : (IntOp.subi (BitVec.ofNat 32 z) 512#32).toNat = if 512 ≤ z then z - 512 else z + 4294966784 := by
      show (BitVec.ofNat 32 z - 512#32).toNat = _
      rw [BitVec.toNat_sub, BitVec.toNat_ofNat]
      split_ifs <;> simp <;> omega
    rw [BitVec.toInt_eq_toNat_cond, e']
    split_ifs <;> omega
  obtain ⟨a0, a1⟩ := t2 _ _ hv
  have a0' : (0#32 : BitVec 32).toInt ≤ (posW p r).toInt := of_decide_eq_true (t _ a0)
  have a1' : (posW p r).toInt < n.toInt := of_decide_eq_true (t _ a1)
  have e1 := e (p.val * 1024 + r.val) (by omega)
  have e2 := e (p.val * 1024) (by omega)
  change (posW p r).toInt = _ at e1
  have hw : IntOp.cmpi .slt (IntOp.subi (BitVec.ofNat 32 (p.val * 1024)) 512#32) n = 1#1 :=
    congrArg BitVec.ofBool (decide_eq_true (show (IntOp.subi (BitVec.ofNat 32 (p.val * 1024)) 512#32).toInt < n.toInt by
      rw [e2]; push_cast at e1 ⊢; omega))
  unfold k0_cond2
  simp only [Scalar.muli, Scalar.subi, Scalar.cmpi, Scalar.extui]
  rw [hp, show IntOp.muli (BitVec.ofNat 32 p.val) 1024#32 = BitVec.ofNat 32 (p.val * 1024) from (BitVec.ofNat_mul ..).symm, hw]
  rfl

theorem oOut_at (b : Fin 1024) (l : Fin 640) : oOut (F := Ideal) i n x0 x1 x2 (ix2 b l) = attn n p (rowsOf x0) (rowsOf x1) (rowsOf x2) b l := by
  unfold oOut
  by_cases hn : k0_cond2 i n = 1#1
  · rw [if_pos hn]
    unfold attnOut
    pointwise [k0_pay5]
    exact OT_at i n x0 x1 x2 p hp h0 h1 h2 b l
  · rw [if_neg hn]
    refine Eq.trans ?_ (if_neg (no_point i n p hp hn b)).symm
    pointwise [k0_pay6]

end Cert.KernelIdeal.Hand

end
-- ==== Proof.Arrays.lean ====
/- The five results as whole arrays, element by element, of the point counts and the three gathered arrays. -/
module

public import proofs.«01_k».proof.Proof.Spec

@[expose] public section

noncomputable section

namespace Cert.Own

open Idealize.ShloMosaic

/-- Row `r` of patch `p` of batch row `b`, as a row of a gathered array. -/
def flatRow (b : Fin 2) (p : Fin 57) (r : Fin 1024) : Fin 116736 := ⟨b.val * 58368 + (p.val * 1024 + r.val), by omega⟩

/-- The patch of such a row. -/
def patchOf (R : Fin 116736) : Fin 57 := ⟨R.val % 58368 / 1024, by omega⟩
/-- Its batch row. -/
def batchOf (R : Fin 116736) : Fin 2 := ⟨R.val / 58368, by omega⟩
/-- Its row in the patch. -/
def rowOf (R : Fin 116736) : Fin 1024 := ⟨R.val % 1024, by omega⟩

theorem batchOf_flat (b : Fin 2) (p : Fin 57) (r : Fin 1024) : batchOf (flatRow b p r) = b :=
  Fin.ext (by show (b.val * 58368 + (p.val * 1024 + r.val)) / 58368 = b.val; omega)
theorem patchOf_flat (b : Fin 2) (p : Fin 57) (r : Fin 1024) : patchOf (flatRow b p r) = p :=
  Fin.ext (by show (b.val * 58368 + (p.val * 1024 + r.val)) % 58368 / 1024 = p.val; omega)
theorem rowOf_flat (b : Fin 2) (p : Fin 57) (r : Fin 1024) : rowOf (flatRow b p r) = r :=
  Fin.ext (by show (b.val * 58368 + (p.val * 1024 + r.val)) % 1024 = r.val; omega)
theorem flat_of (R : Fin 116736) : flatRow (batchOf R) (patchOf R) (rowOf R) = R :=
  Fin.ext (by show R.val / 58368 * 58368 + (R.val % 58368 / 1024 * 1024 + R.val % 1024) = R.val; omega)

/-- A gathered array. -/
abbrev Gathered : Type := (⟨2, ![116736, 640]⟩ : Shape).Idx → EReal

/-- A patch of a gathered array. -/
def patchAt (g : Gathered) (b : Fin 2) (p : Fin 57) : Fin 1024 → Fin 640 → EReal := fun r l => g (ix2 (flatRow b p r) l)

variable (n : (⟨1, ![2]⟩ : Shape).Idx → BitVec 32)

/-- The codes of one gathered array. -/
def codes (g : Gathered) : (⟨5, ![2, 57, 40, 16, 1024]⟩ : Shape).Idx → EReal :=
  fun j => code (n (ix1 (j 0))) (j 1) (patchAt g (j 0) (j 1)) (j 4) (lane (j 2) (j 3))

/-- The scales: row 0 q's, row 1 k's, the others v's, each repeated over its head's columns. -/
def scales (gq gk gv : Gathered) : (⟨4, ![2, 57, 8, 640]⟩ : Shape).Idx → EReal :=
  fun j => scale (n (ix1 (j 0))) (j 1) (patchAt (if (j 2).val = 0 then gq else if (j 2).val = 1 then gk else gv) (j 0) (j 1)) (headOf (j 3))

/-- The attention output. -/
def outs (gq gk gv : Gathered) : (⟨2, ![116736, 640]⟩ : Shape).Idx → EReal :=
  fun j => attn (n (ix1 (batchOf (j 0)))) (patchOf (j 0)) (patchAt gq (batchOf (j 0)) (patchOf (j 0))) (patchAt gk (batchOf (j 0)) (patchOf (j 0)))
    (patchAt gv (batchOf (j 0)) (patchOf (j 0))) (rowOf (j 0)) (j 1)

end Cert.Own

end
-- ==== Proof.KArr.lean ====
/- What the kernel's result arrays hold, over the extended reals: the arrays of `Arrays`. -/
module

public import proofs.«01_k».proof.Proof.IData
public import proofs.«01_k».proof.Proof.KAttn
public import proofs.«01_k».proof.Proof.Arrays
public import Idealize.ShloMosaic.Lib.Pipeline.ValueKit.Geometry

@[expose] public section

set_option maxRecDepth 16384

noncomputable section

namespace Cert.KernelIdeal.Hand

open Cert.KernelIdeal.Gen Cert.Own
open Idealize.ShloMosaic Idealize.ShloMosaic.TcCoe Idealize.SL.Sem

/-! ## Every element of a result is in a block that is written back -/

/-- Some point counts: the blocks do not depend on them. -/
def pf0 : pre0.Contents (Elt Ideal) := fun | 0 => fun _ => (0#32 : BitVec 32)

theorem cov3 : ((cfg0 (F := Ideal) ⟨pf0, trivial⟩).win 3).Covers := by decide +kernel
theorem cov4 : ((cfg0 (F := Ideal) ⟨pf0, trivial⟩).win 4).Covers := by decide +kernel
theorem cov5 : ((cfg0 (F := Ideal) ⟨pf0, trivial⟩).win 5).Covers := by decide +kernel
theorem cov6 : ((cfg0 (F := Ideal) ⟨pf0, trivial⟩).win 6).Covers := by decide +kernel
theorem cov7 : ((cfg0 (F := Ideal) ⟨pf0, trivial⟩).win 7).Covers := by decide +kernel

/-! ## Where the blocks sit -/

theorem idx0 : ∀ i : grid0.Coords, cc0_transform_0 i = ![(i 1).val * 57 + (i 0).val, 0] := by decide +kernel
theorem idx3 : ∀ i : grid0.Coords, cc0_transform_3 i = ![(i 1).val, (i 0).val, 0, 0, 0] := by decide +kernel
theorem idx6 : ∀ i : grid0.Coords, cc0_transform_6 i = ![(i 1).val, (i 0).val, 0, 0] := by decide +kernel

variable (m : (ℓ : Loc nD τ sig) → Buf (Elt Ideal) ℓ) (hO : Ok m) (c : Dev nD) (t : Fin (cfgM m hO).N)

/-- The patch of a grid point. -/
def ptP : Fin 57 := grid0.coords t 0
/-- Its batch row. -/
def ptB : Fin 2 := grid0.coords t 1

/-- An index of a gathered array, from its coordinates in the point's block. -/
theorem rows_of (i : grid0.Coords) (f : S116736x640.Idx) (r : Fin 1024) (l : Fin 640)
    (h : ∀ a : Fin 2, (f a).val = (![(i 1).val * 57 + (i 0).val, 0] : Fin 2 → Nat) a * (![1024, 640] : Fin 2 → Nat) a + (ix2 r l a).val) :
    f = ix2 (flatRow (i 1) (i 0) r) l := by
  funext a
  apply Fin.ext
  rw [h a]
  rcases a with ⟨_ | _ | a, ha⟩
  · show ((i 1).val * 57 + (i 0).val) * 1024 + r.val = (i 1).val * 58368 + ((i 0).val * 1024 + r.val)
    omega
  · show 0 * 640 + l.val = l.val
    omega
  · exact absurd ha (by show ¬ _ < _; simp)

theorem emb0 (r : Fin 1024) (l : Fin 640) :
    ((((cfgM m hO).win 0).blk t).view.emb (ix2 (n0 := 1024) (n1 := 640) r l) : S116736x640.Idx) = ix2 (flatRow (ptB m hO t) (ptP m hO t) r) l :=
  rows_of (grid0.coords t) _ r l fun a =>
    (Pipeline.Window.rect_emb_val ((cfgM m hO).win 0) t (ix2 (n0 := 1024) (n1 := 640) r l) a).trans
      (by rw [show ((cfgM m hO).win 0).index t = ![(grid0.coords t 1).val * 57 + (grid0.coords t 0).val, 0] from idx0 _]; rfl)
theorem emb1 (r : Fin 1024) (l : Fin 640) :
    ((((cfgM m hO).win 1).blk t).view.emb (ix2 (n0 := 1024) (n1 := 640) r l) : S116736x640.Idx) = ix2 (flatRow (ptB m hO t) (ptP m hO t) r) l :=
  rows_of (grid0.coords t) _ r l fun a =>
    (Pipeline.Window.rect_emb_val ((cfgM m hO).win 1) t (ix2 (n0 := 1024) (n1 := 640) r l) a).trans
      (by rw [show ((cfgM m hO).win 1).index t = ![(grid0.coords t 1).val * 57 + (grid0.coords t 0).val, 0] from idx0 _]; rfl)
theorem emb2 (r : Fin 1024) (l : Fin 640) :
    ((((cfgM m hO).win 2).blk t).view.emb (ix2 (n0 := 1024) (n1 := 640) r l) : S116736x640.Idx) = ix2 (flatRow (ptB m hO t) (ptP m hO t) r) l :=
  rows_of (grid0.coords t) _ r l fun a =>
    (Pipeline.Window.rect_emb_val ((cfgM m hO).win 2) t (ix2 (n0 := 1024) (n1 := 640) r l) a).trans
      (by rw [show ((cfgM m hO).win 2).index t = ![(grid0.coords t 1).val * 57 + (grid0.coords t 0).val, 0] from idx0 _]; rfl)
theorem emb7 (r : Fin 1024) (l : Fin 640) :
    ((((cfgM m hO).win 7).blk t).view.emb (ix2 (n0 := 1024) (n1 := 640) r l) : S116736x640.Idx) = ix2 (flatRow (ptB m hO t) (ptP m hO t) r) l :=
  rows_of (grid0.coords t) _ r l fun a =>
    (Pipeline.Window.rect_emb_val ((cfgM m hO).win 7) t (ix2 (n0 := 1024) (n1 := 640) r l) a).trans
      (by rw [show ((cfgM m hO).win 7).index t = ![(grid0.coords t 1).val * 57 + (grid0.coords t 0).val, 0] from idx0 _]; rfl)

/-- An index of an array of codes, likewise. -/
theorem codes_of (i : grid0.Coords) (f : S2x57x40x16x1024.Idx) (y : S1x1x40x16x1024.Idx)
    (h : ∀ a : Fin 5, (f a).val = (![(i 1).val, (i 0).val, 0, 0, 0] : Fin 5 → Nat) a * (![1, 1, 40, 16, 1024] : Fin 5 → Nat) a + (y a).val) :
    f = ix5 (n0 := 2) (n1 := 57) (n2 := 40) (n3 := 16) (n4 := 1024) (i 1) (i 0) (y 2) (y 3) (y 4) := by
  have y0 : (y 0).val < 1 := (y 0).isLt
  have y1 : (y 1).val < 1 := (y 1).isLt
  funext a
  apply Fin.ext
  rw [h a]
  rcases a with ⟨_ | _ | _ | _ | _ | a, ha⟩
  · show (i 1).val * 1 + (y 0).val = (i 1).val
    omega
  · show (i 0).val * 1 + (y 1).val = (i 0).val
    omega
  · show 0 * 40 + (y 2).val = (y 2).val
    omega
  · show 0 * 16 + (y 3).val = (y 3).val
    omega
  · show 0 * 1024 + (y 4).val = (y 4).val
    omega
  · exact absurd ha (by show ¬ _ < _; simp)

theorem emb3 (y : S1x1x40x16x1024.Idx) : ((((cfgM m hO).win 3).blk t).view.emb y : S2x57x40x16x1024.Idx)
    = ix5 (n0 := 2) (n1 := 57) (n2 := 40) (n3 := 16) (n4 := 1024) (ptB m hO t) (ptP m hO t) (y 2) (y 3) (y 4) :=
  codes_of (grid0.coords t) _ y fun a => (Pipeline.Window.rect_emb_val ((cfgM m hO).win 3) t y a).trans
    (by rw [show ((cfgM m hO).win 3).index t = ![(grid0.coords t 1).val, (grid0.coords t 0).val, 0, 0, 0] from idx3 _]; rfl)
theorem emb4 (y : S1x1x40x16x1024.Idx) : ((((cfgM m hO).win 4).blk t).view.emb y : S2x57x40x16x1024.Idx)
    = ix5 (n0 := 2) (n1 := 57) (n2 := 40) (n3 := 16) (n4 := 1024) (ptB m hO t) (ptP m hO t) (y 2) (y 3) (y 4) :=
  codes_of (grid0.coords t) _ y fun a => (Pipeline.Window.rect_emb_val ((cfgM m hO).win 4) t y a).trans
    (by rw [show ((cfgM m hO).win 4).index t = ![(grid0.coords t 1).val, (grid0.coords t 0).val, 0, 0, 0] from idx3 _]; rfl)
theorem emb5 (y : S1x1x40x16x1024.Idx) : ((((cfgM m hO).win 5).blk t).view.emb y : S2x57x40x16x1024.Idx)
    = ix5 (n0 := 2) (n1 := 57) (n2 := 40) (n3 := 16) (n4 := 1024) (ptB m hO t) (ptP m hO t) (y 2) (y 3) (y 4) :=
  codes_of (grid0.coords t) _ y fun a => (Pipeline.Window.rect_emb_val ((cfgM m hO).win 5) t y a).trans
    (by rw [show ((cfgM m hO).win 5).index t = ![(grid0.coords t 1).val, (grid0.coords t 0).val, 0, 0, 0] from idx3 _]; rfl)

/-- An index of the array of scales, likewise. -/
theorem scales_of (i : grid0.Coords) (f : S2x57x8x640.Idx) (y : S1x1x8x640.Idx)
    (h : ∀ a : Fin 4, (f a).val = (![(i 1).val, (i 0).val, 0, 0] : Fin 4 → Nat) a * (![1, 1, 8, 640] : Fin 4 → Nat) a + (y a).val) :
    f = ix4 (n0 := 2) (n1 := 57) (n2 := 8) (n3 := 640) (i 1) (i 0) (y 2) (y 3) := by
  have y0 : (y 0).val < 1 := (y 0).isLt
  have y1 : (y 1).val < 1 := (y 1).isLt
  funext a
  apply Fin.ext
  rw [h a]
  rcases a with ⟨_ | _ | _ | _ | a, ha⟩
  · show (i 1).val * 1 + (y 0).val = (i 1).val
    omega
  · show (i 0).val * 1 + (y 1).val = (i 0).val
    omega
  · show 0 * 8 + (y 2).val = (y 2).val
    omega
  · show 0 * 640 + (y 3).val = (y 3).val
    omega
  · exact absurd ha (by show ¬ _ < _; simp)

theorem emb6 (y : S1x1x8x640.Idx) : ((((cfgM m hO).win 6).blk t).view.emb y : S2x57x8x640.Idx)
    = ix4 (n0 := 2) (n1 := 57) (n2 := 8) (n3 := 640) (ptB m hO t) (ptP m hO t) (y 2) (y 3) :=
  scales_of (grid0.coords t) _ y fun a => (Pipeline.Window.rect_emb_val ((cfgM m hO).win 6) t y a).trans
    (by rw [show ((cfgM m hO).win 6).index t = ![(grid0.coords t 1).val, (grid0.coords t 0).val, 0, 0] from idx6 _]; rfl)

/-! ## What a point reads -/

/-- The point counts, as launched. -/
abbrev counts : S2.Idx → BitVec 32 := m ((c : Thread nD τ).loc main_arg0)
/-- The gathered arrays, as launched. -/
abbrev gq : S116736x640.Idx → EReal := m ((c : Thread nD τ).loc main_arg1)
abbrev gk : S116736x640.Idx → EReal := m ((c : Thread nD τ).loc main_arg2)
abbrev gv : S116736x640.Idx → EReal := m ((c : Thread nD τ).loc main_arg3)

theorem rows0 : rowsOf (iblk m hO c 0 t) = patchAt (gq m c) (ptB m hO t) (ptP m hO t) := by
  funext r l
  show V m c main_arg1 ((((cfgM m hO).win 0).blk t).view.emb (ix2 (n0 := 1024) (n1 := 640) r l)) = _
  rw [emb0]
  rfl
theorem rows1 : rowsOf (iblk m hO c 1 t) = patchAt (gk m c) (ptB m hO t) (ptP m hO t) := by
  funext r l
  show V m c main_arg2 ((((cfgM m hO).win 1).blk t).view.emb (ix2 (n0 := 1024) (n1 := 640) r l)) = _
  rw [emb1]
  rfl
theorem rows2 : rowsOf (iblk m hO c 2 t) = patchAt (gv m c) (ptB m hO t) (ptP m hO t) := by
  funext r l
  show V m c main_arg3 ((((cfgM m hO).win 2).blk t).view.emb (ix2 (n0 := 1024) (n1 := 640) r l)) = _
  rw [emb2]
  rfl

theorem off1 : ∀ i : grid0.Coords, k0_off1 i = ![(i 1).val] := by decide +kernel
theorem word_eq : word (grid0.coords t) c (tbl m 0) = counts m c (ix1 (ptB m hO t)) := by
  have hc : c = 0 := Subsingleton.elim _ _
  subst hc
  show m (((0 : Dev nD) : Thread nD τ).loc main_arg0) _ = m (((0 : Dev nD) : Thread nD τ).loc main_arg0) _
  refine congrArg _ (funext fun a => ?_)
  have ha : a = (0 : Fin 1) := Subsingleton.elim (α := Fin 1) _ _
  subst ha
  apply Fin.ext
  show (k0_off1 (grid0.coords t)) 0 + 1 * 0 = (grid0.coords t 1).val
  rw [off1]
  rfl

/-! ## The blocks -/

/-- Row 0, row 1, or another. -/
theorem pick (s : Fin 8) (x y z : EReal) :
    Scalar.select (IntOp.cmpi .eq (BitVec.ofNat 32 s.val) 0#32) x (Scalar.select (IntOp.cmpi .eq (BitVec.ofNat 32 s.val) 1#32) y z)
      = if s.val = 0 then x else if s.val = 1 then y else z := by
  fin_cases s <;> rfl

section

variable (i : grid0.Coords) (n : BitVec 32) (x x0 x1 x2 : Vec Ideal S1024x640 .bf16) (p : Fin 57) (hp : (i 0).val = p.val)
include hp

theorem qOut_at (hx : Small (rowsOf x)) (y : S1x1x40x16x1024.Idx) :
    qOut (F := Ideal) i n x y = code n p (rowsOf x) (y 4) (lane (y 2) (y 3)) := by
  rw [eq_ix5 y]
  generalize y 0 = a0
  generalize y 1 = a1
  generalize y 2 = h
  generalize y 3 = d
  generalize y 4 = r
  have ea0 : a0 = (0 : Fin 1) := Subsingleton.elim (α := Fin 1) _ _
  subst ea0
  have ea1 : a1 = (0 : Fin 1) := Subsingleton.elim (α := Fin 1) _ _
  subst ea1
  refine Eq.trans ?_ (qCode_at i n x p hp (fun h => (amax_bound n p _ hx h).1) (fun h => (amax_bound n p _ hx h).2) r (lane h d))
  show k0_pay35 (F := Ideal) (k0_pay23 i x) (qExpo i n x) 0#32 (ix5 0 0 h d r) = k0_pay34 (F := Ideal) (k0_pay23 i x) (qExpo i n x) 0#32 (ix2 (lane h d) r)
  pointwise [k0_pay35]
  rfl

theorem scOut_at (h0 : Small (rowsOf x0)) (h1 : Small (rowsOf x1)) (h2 : Small (rowsOf x2)) (y : S1x1x8x640.Idx) :
    scOut (F := Ideal) i n x0 x1 x2 y
      = scale n p (if (y 2).val = 0 then rowsOf x0 else if (y 2).val = 1 then rowsOf x1 else rowsOf x2) (headOf (y 3)) := by
  rw [eq_ix4 y]
  generalize y 0 = a0
  generalize y 1 = a1
  generalize y 2 = s
  generalize y 3 = l
  have ea0 : a0 = (0 : Fin 1) := Subsingleton.elim (α := Fin 1) _ _
  subst ea0
  have ea1 : a1 = (0 : Fin 1) := Subsingleton.elim (α := Fin 1) _ _
  subst ea1
  have e0 := qScale_at i n x0 p hp (fun h => (amax_bound n p _ h0 h).1) (fun h => (amax_bound n p _ h0 h).2) s l
  have e1 := qScale_at i n x1 p hp (fun h => (amax_bound n p _ h1 h).1) (fun h => (amax_bound n p _ h1 h).2) s l
  have e2 := qScale_at i n x2 p hp (fun h => (amax_bound n p _ h2 h).1) (fun h => (amax_bound n p _ h2 h).2) s l
  rw [← kScale_eq] at e1
  rw [← vScale_eq] at e2
  unfold vScale at e2
  unfold scOut
  pointwise [k0_pay105]
  rw [e0, e1, e2]
  refine (pick s _ _ _).trans ?_
  show _ = scale n p (if s.val = 0 then rowsOf x0 else if s.val = 1 then rowsOf x1 else rowsOf x2) (headOf l)
  by_cases c0 : s.val = 0
  · rw [if_pos c0, if_pos c0]
  · rw [if_neg c0, if_neg c0]
    by_cases c1 : s.val = 1
    · rw [if_pos c1, if_pos c1]
    · rw [if_neg c1, if_neg c1]

end

/-! ## The arrays -/

/-- The hypothesis on the gathered arrays: finite values of `bf16`'s range. -/
def Finite (g : S116736x640.Idx → EReal) : Prop := ∀ i, ∃ y : ℝ, g i = y ∧ |y| ≤ 16711680 * 2 ^ (104 : ℤ)

theorem Finite.small {g : S116736x640.Idx → EReal} (h : Finite g) (b : Fin 2) (p : Fin 57) : Small (patchAt g b p) := fun r l => h _

theorem arr3 (hg : Finite (gq m c)) : (dats m hO 0 c).arrAt 3 (cfgM m hO).N = codes (counts m c) (gq m c) := by
  refine (dats m hO 0 c).arrAt_eq_of_covers 3 (codes (counts m c) (gq m c)) cov3 (fun t hf y => ?_) (show ((cfgM m hO).win 3).arr.IsWhole from Memref.isWhole_whole main_v0_0)
  refine (cast_eq _ _).trans ((congrFun (after0_3 m hO c t) _).trans ?_)
  have hs : Small (rowsOf (iblk m hO c 0 t)) := by rw [rows0]; exact hg.small _ _
  refine (qOut_at (grid0.coords t) _ _ (ptP m hO t) rfl hs y).trans ?_
  rw [rows0, word_eq m hO c t]
  exact (congrArg (codes (counts m c) (gq m c)) (emb3 m hO t y)).symm

theorem arr4 (hg : Finite (gk m c)) : (dats m hO 0 c).arrAt 4 (cfgM m hO).N = codes (counts m c) (gk m c) := by
  refine (dats m hO 0 c).arrAt_eq_of_covers 4 (codes (counts m c) (gk m c)) cov4 (fun t hf y => ?_) (show ((cfgM m hO).win 4).arr.IsWhole from Memref.isWhole_whole main_v0_1)
  refine (cast_eq _ _).trans ((congrFun (after0_4 m hO c t) _).trans ?_)
  have hs : Small (rowsOf (iblk m hO c 1 t)) := by rw [rows1]; exact hg.small _ _
  refine (congrFun (kOut_eq _ _ _) _).trans ?_
  refine (qOut_at (grid0.coords t) _ _ (ptP m hO t) rfl hs y).trans ?_
  rw [rows1, word_eq m hO c t]
  exact (congrArg (codes (counts m c) (gk m c)) (emb4 m hO t y)).symm

theorem arr5 (hg : Finite (gv m c)) : (dats m hO 0 c).arrAt 5 (cfgM m hO).N = codes (counts m c) (gv m c) := by
  refine (dats m hO 0 c).arrAt_eq_of_covers 5 (codes (counts m c) (gv m c)) cov5 (fun t hf y => ?_) (show ((cfgM m hO).win 5).arr.IsWhole from Memref.isWhole_whole main_v0_2)
  refine (cast_eq _ _).trans ((congrFun (after0_5 m hO c t) _).trans ?_)
  have hs : Small (rowsOf (iblk m hO c 2 t)) := by rw [rows2]; exact hg.small _ _
  refine (congrFun (vOut_eq _ _ _) _).trans ?_
  refine (qOut_at (grid0.coords t) _ _ (ptP m hO t) rfl hs y).trans ?_
  rw [rows2, word_eq m hO c t]
  exact (congrArg (codes (counts m c) (gv m c)) (emb5 m hO t y)).symm

theorem arr6 (h0 : Finite (gq m c)) (h1 : Finite (gk m c)) (h2 : Finite (gv m c)) :
    (dats m hO 0 c).arrAt 6 (cfgM m hO).N = scales (counts m c) (gq m c) (gk m c) (gv m c) := by
  refine (dats m hO 0 c).arrAt_eq_of_covers 6 (scales (counts m c) (gq m c) (gk m c) (gv m c)) cov6 (fun t hf y => ?_) (show ((cfgM m hO).win 6).arr.IsWhole from Memref.isWhole_whole main_v0_3)
  refine (cast_eq _ _).trans ((congrFun (after0_6 m hO c t) _).trans ?_)
  have s0 : Small (rowsOf (iblk m hO c 0 t)) := by rw [rows0]; exact h0.small _ _
  have s1 : Small (rowsOf (iblk m hO c 1 t)) := by rw [rows1]; exact h1.small _ _
  have s2 : Small (rowsOf (iblk m hO c 2 t)) := by rw [rows2]; exact h2.small _ _
  refine (scOut_at (grid0.coords t) _ _ _ _ (ptP m hO t) rfl s0 s1 s2 y).trans ?_
  rw [rows0, rows1, rows2, word_eq m hO c t]
  refine Eq.trans ?_ (congrArg (scales (counts m c) (gq m c) (gk m c) (gv m c)) (emb6 m hO t y)).symm
  show scale _ _ (if ((show S1x1x8x640.Idx from y) 2).val = 0 then _ else if ((show S1x1x8x640.Idx from y) 2).val = 1 then _ else _) _ = scale _ _ (patchAt (if ((show S1x1x8x640.Idx from y) 2).val = 0 then gq m c else if ((show S1x1x8x640.Idx from y) 2).val = 1 then gk m c else gv m c) _ _) _
  congr 1
  split_ifs <;> rfl

theorem arr7 (h0 : Finite (gq m c)) (h1 : Finite (gk m c)) (h2 : Finite (gv m c)) :
    (dats m hO 0 c).arrAt 7 (cfgM m hO).N = outs (counts m c) (gq m c) (gk m c) (gv m c) := by
  refine (dats m hO 0 c).arrAt_eq_of_covers 7 (outs (counts m c) (gq m c) (gk m c) (gv m c)) cov7 (fun t hf y => ?_) (show ((cfgM m hO).win 7).arr.IsWhole from Memref.isWhole_whole main_v0_4)
  refine (cast_eq _ _).trans ((congrFun (after0_7 m hO c t) _).trans ?_)
  have s0 : Small (rowsOf (iblk m hO c 0 t)) := by rw [rows0]; exact h0.small _ _
  have s1 : Small (rowsOf (iblk m hO c 1 t)) := by rw [rows1]; exact h1.small _ _
  have s2 : Small (rowsOf (iblk m hO c 2 t)) := by rw [rows2]; exact h2.small _ _
  obtain ⟨r, l, rfl⟩ : ∃ (r : Fin 1024) (l : Fin 640), y = ix2 (n0 := 1024) (n1 := 640) r l := ⟨(show S1024x640.Idx from y) 0, (show S1024x640.Idx from y) 1, eq_ix2 (n0 := 1024) (n1 := 640) y⟩
  refine (oOut_at (grid0.coords t) _ _ _ _ (ptP m hO t) rfl s0 s1 s2 r l).trans ?_
  rw [rows0, rows1, rows2, word_eq m hO c t]
  refine Eq.trans ?_ (congrArg (outs (counts m c) (gq m c) (gk m c) (gv m c)) (emb7 m hO t r l)).symm
  show _ = attn (counts m c (ix1 (batchOf (flatRow (ptB m hO t) (ptP m hO t) r)))) (patchOf (flatRow (ptB m hO t) (ptP m hO t) r)) (patchAt _ (batchOf (flatRow (ptB m hO t) (ptP m hO t) r)) (patchOf (flatRow (ptB m hO t) (ptP m hO t) r))) (patchAt _ (batchOf (flatRow (ptB m hO t) (ptP m hO t) r)) (patchOf (flatRow (ptB m hO t) (ptP m hO t) r))) (patchAt _ (batchOf (flatRow (ptB m hO t) (ptP m hO t) r)) (patchOf (flatRow (ptB m hO t) (ptP m hO t) r))) (rowOf (flatRow (ptB m hO t) (ptP m hO t) r)) l
  rw [batchOf_flat, patchOf_flat, rowOf_flat]

end Cert.KernelIdeal.Hand

end
-- ==== Proof.RHost.lean ====
/- The reference's host operations before the call, read at an index: the scales and codes of q, k and v, patch by patch. -/
module

public import proofs.«01_k».proof.Proof.Gen.ReferenceIdeal.Frame
public import proofs.«01_k».proof.Proof.Spec
public import proofs.«01_k».proof.Proof.Expo
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

/-! ## Reductions -/

theorem foldl_max_le {ι : Type} (L : List ι) (f : ι → EReal) (a c : EReal) :
    L.foldl (fun r n => max r (f n)) a ≤ c ↔ a ≤ c ∧ ∀ n ∈ L, f n ≤ c := by
  induction L generalizing a with
  | nil => simp
  | cons x L ih => rw [List.foldl_cons, ih, max_le_iff, List.forall_mem_cons, and_assoc]

/-- The maximum over the rows and the channels. -/
theorem reduce_max (x : FVec Ideal S2x57x1024x40x16 .f32) (b : Fin 2) (p : Fin 57) (h : Fin 40) :
    (Host.reduce FloatOps.maximumf x (constant S_ .f32 0xFF800000#32) reducesTo_S2x57x1024x40x16_S2x57x40_d2_4 h_S_ : FVec Ideal S2x57x40 .f32) (ix3 b p h)
      = ⨆ r : Fin 1024, ⨆ d : Fin 16, (x (ix5 b p r h d) : EReal) := by
  refine eq_of_forall_ge_iff fun c => ?_
  unfold Host.reduce
  refine (foldl_max_le _ _ _ c).trans ?_
  have hb : (constant (F := Ideal) S_ .f32 0xFF800000#32 (Shape.Idx.first h_S_) : EReal) ≤ c := by
    show Ideal.ofBits .f32 0xFF800000#32 ≤ c
    rw [ofBits_ninf]; exact bot_le
  rw [iSup_le_iff]
  simp only [iSup_le_iff, and_iff_right hb, List.mem_filter, List.mem_finRange, true_and, decide_eq_true_eq]
  constructor
  · intro H r d
    have := H (S2x57x1024x40x16.rowMajor (ix5 b p r h d)) (by
      rw [Equiv.symm_apply_apply]
      funext a
      fin_cases a <;> rfl)
    rwa [Equiv.symm_apply_apply] at this
  · intro H n hn
    generalize S2x57x1024x40x16.rowMajor.symm n = i at hn ⊢
    have e : i = ix5 b p (i 2) h (i 4) := by
      have e0 : i 0 = b := Fin.ext (congrArg Fin.val (congrFun hn 0))
      have e1 : i 1 = p := Fin.ext (congrArg Fin.val (congrFun hn 1))
      have e3 : i 3 = h := Fin.ext (congrArg Fin.val (congrFun hn 2))
      funext a
      fin_cases a
      · exact e0
      · exact e1
      · rfl
      · exact e3
      · rfl
    rw [e]
    exact H _ _

/-- The elements of a buffer as extended reals. -/
abbrev asF {s : Shape} {φ : FTy} (x : FVec Ideal s φ) : s.Idx → EReal := x

theorem mul_at (z : FVec Ideal S2x57x40 .f32) (w : BitVec 32) (i : S2x57x40.Idx) :
    mulf z (broadcastInDim S2x57x40 ![] bcast_S_S2x57x40 (constant S_ .f32 w)) i = (asF z i * Ideal.ofBits .f32 w : EReal) := rfl

theorem gt_at (u : FVec Ideal S253 .f32) (z : FVec Ideal S2x57x40 .f32) (b : Fin 2) (p : Fin 57) (h : Fin 40) (k : Fin 253) :
    cmpf .ogt (broadcastInDim S2x57x40x253 ![0, 1, 2, 3] bcast_S1x1x1x253_S2x57x40x253_0_1_2_3 (broadcastInDim S1x1x1x253 ![3] bcast_S253_S1x1x1x253_3 u))
      (broadcastInDim S2x57x40x253 ![0, 1, 2, 3] bcast_S2x57x40x1_S2x57x40x253_0_1_2_3 (broadcastInDim S2x57x40x1 ![0, 1, 2] bcast_S2x57x40_S2x57x40x1_0_1_2 z)) (ix4 b p h k)
      = FloatOps.cmpf (F := Ideal) (φ := .f32) .ogt (u (ix1 k)) (z (ix3 b p h)) := by
  pointwise

theorem ofBits_pinf : Ideal.ofBits .f32 0x7F800000#32 = ⊤ := ofBits_field 255 (by norm_num)

/-- The minimum over a finite family, from plus infinity. -/
theorem fold_min_iInf {ι : Type} [Fintype ι] (f : ι → EReal) : Finset.fold min (Ideal.ofBits .f32 0x7F800000#32) f Finset.univ = ⨅ i, f i := by
  refine eq_of_forall_le_iff fun c => ?_
  rw [Finset.le_fold_min, le_iInf_iff, ofBits_pinf]
  simp

theorem pow_word : ∀ k : Fin 253, (IntOp.addi 4294967171#32 (BitVec.ofNat 32 k.val)).toInt = (k.val : ℤ) - 125 := by decide +kernel

theorem headOf_lane (h : Fin 40) (d : Fin 16) : headOf (lane h d) = h := Fin.ext (by show (h.val * 16 + d.val) / 16 = h.val; omega)

/-- The row of the patched array that row `r` of patch `p` is. -/
def rowIx (p : Fin 57) (r : Fin 1024) : Fin 58368 := ⟨p.val * 1024 + r.val, by omega⟩

/-- A patch of a gathered array. -/
def patch (g : FVec Ideal S116736x640 .bf16) (b : Fin 2) (p : Fin 57) : Fin 1024 → Fin 640 → EReal :=
  fun r l => g (ix2 ⟨b.val * 58368 + (p.val * 1024 + r.val), by omega⟩ l)

variable (W : Valuation τ sig (Elt Ideal)) (b : Fin 2) (p : Fin 57)

/-! ## The positions, the powers of two, and q's rows -/

def segA : Valuation τ sig (Elt Ideal) := StableHlo.after hostOps0_1 (StableHlo.after hostOps0 W)

theorem A_valid (r : Fin 1024) : (segA W (Proc.devRef .tc main_v18) : IVec S2x57x1024 1) (ix3 b p r)
    = validB ((W (Proc.devRef .tc main_arg0) : IVec S2 32) (ix1 b)) p r := by
  unfold segA; after_reads_at; rfl
theorem A_inside (r : Fin 1024) : (segA W (Proc.devRef .tc main_v7) : IVec S58368 1) (ix1 (rowIx p r)) = insideB p r := by
  unfold segA rowIx; after_reads_at; rfl
theorem A_pow (k : Fin 253) : (segA W (Proc.devRef .tc main_v24) : FVec Ideal S253 .f32) (ix1 k) = pow2 k := by
  unfold segA; after_reads_at
  rw [ofBits_two]
  have : (FloatOps.sitofp .f32 (IntOp.addi 4294967171#32 (BitVec.ofNat 32 k.val)) : Ideal .f32) = (((k.val : ℝ) - 125 : ℝ) : EReal) := by
    show (((IntOp.addi 4294967171#32 (BitVec.ofNat 32 k.val)).toInt : ℝ) : EReal) = _
    rw [pow_word]; push_cast; rfl
  rw [this]
  rfl
theorem A_x (r : Fin 1024) (l : Fin 640) : (segA W (Proc.devRef .tc main_v28) : FVec Ideal S2x58368x640 .f32) (ix3 b (rowIx p r) l)
    = xin p (patch (W (Proc.devRef .tc main_arg1)) b p) r l := by
  unfold segA rowIx; after_reads_at
  exact congrArg (fun z => Scalar.select (insideB p r) (patch (W (Proc.devRef .tc main_arg1)) b p r l) z) Ideal.ofBits_zero_f32
theorem A_keep : segA W (Proc.devRef .tc main_arg2) = W (Proc.devRef .tc main_arg2) ∧ segA W (Proc.devRef .tc main_arg3) = W (Proc.devRef .tc main_arg3) := by
  constructor <;> (unfold segA; after_reads_simp)

end Cert.ReferenceIdeal.Hand

end
-- ==== Proof.RQ.lean ====
/- The reference's quantiser of q, read at an index. -/
module

public import proofs.«01_k».proof.Proof.RHost

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

variable (W : Valuation τ sig (Elt Ideal)) (b : Fin 2) (p : Fin 57)

/-! ## The quantiser of q -/

def segQ1 : Valuation τ sig (Elt Ideal) := StableHlo.after hostOps0_3 (StableHlo.after hostOps0_2 W)
def segQ2 : Valuation τ sig (Elt Ideal) := StableHlo.after hostOps0_4 W
def segQ3 : Valuation τ sig (Elt Ideal) := StableHlo.after hostOps0_7 (StableHlo.after hostOps0_6 (StableHlo.after hostOps0_5 W))
def segQ4 : Valuation τ sig (Elt Ideal) := StableHlo.after hostOps0_11 (StableHlo.after hostOps0_10 (StableHlo.after hostOps0_9 (StableHlo.after hostOps0_8 W)))
def segQ : Valuation τ sig (Elt Ideal) := segQ4 (segQ3 (segQ2 (segQ1 W)))

theorem Q1_x (r : Fin 1024) (h : Fin 40) (d : Fin 16) : (segQ1 W (Proc.devRef .tc main_v29) : FVec Ideal S2x57x1024x40x16 .f32) (ix5 b p r h d)
    = (W (Proc.devRef .tc main_v28) : FVec Ideal S2x58368x640 .f32) (ix3 b (rowIx p r) (lane h d)) := by
  unfold segQ1; after_reads_at; rfl
theorem Q1_size (r : Fin 1024) (h : Fin 40) (d : Fin 16) : (segQ1 W (Proc.devRef .tc main_v32) : FVec Ideal S2x57x1024x40x16 .f32) (ix5 b p r h d)
    = Scalar.select ((W (Proc.devRef .tc main_v18) : IVec S2x57x1024 1) (ix3 b p r))
        (FloatOps.absf (F := Ideal) (φ := .f32) ((W (Proc.devRef .tc main_v28) : FVec Ideal S2x58368x640 .f32) (ix3 b (rowIx p r) (lane h d)))) (0 : EReal) := by
  unfold segQ1; after_reads_at
  exact congrArg (fun z => Scalar.select ((W (Proc.devRef .tc main_v18) : IVec S2x57x1024 1) (ix3 b p r))
        (FloatOps.absf (F := Ideal) (φ := .f32) ((W (Proc.devRef .tc main_v28) : FVec Ideal S2x58368x640 .f32) (ix3 b (rowIx p r) (lane h d)))) z) Ideal.ofBits_zero_f32
theorem Q1_keep : segQ1 W (Proc.devRef .tc main_v24) = W (Proc.devRef .tc main_v24) := by unfold segQ1; after_reads_simp

theorem Q2_max (h : Fin 40) : (segQ2 W (Proc.devRef .tc main_v35) : FVec Ideal S2x57x40 .f32) (ix3 b p h)
    = (⨆ r : Fin 1024, ⨆ d : Fin 16, asF (s := S2x57x1024x40x16) (φ := .f32) (W (Proc.devRef .tc main_v32)) (ix5 b p r h d)) * Ideal.ofBits .f32 0x3B124925#32 := by
  rw [← reduce_max]
  unfold segQ2; after_reads_simp
  exact mul_at _ _ _
theorem Q2_gt (h : Fin 40) (k : Fin 253) : (segQ2 W (Proc.devRef .tc main_v40) : IVec S2x57x40x253 1) (ix4 b p h k)
    = FloatOps.cmpf (F := Ideal) (φ := .f32) .ogt ((W (Proc.devRef .tc main_v24) : FVec Ideal S253 .f32) (ix1 k)) ((segQ2 W (Proc.devRef .tc main_v35) : FVec Ideal S2x57x40 .f32) (ix3 b p h)) := by
  unfold segQ2; after_reads_simp
  exact gt_at _ _ _ _ _ _
theorem Q2_inf : asF (s := S_) (φ := .f32) (segQ2 W (Proc.devRef .tc main_cst_8)) ix0 = ⊤ := by
  dsimp only [asF]
  unfold segQ2; after_reads_simp
  exact ofBits_pinf
theorem Q2_keep : segQ2 W (Proc.devRef .tc main_v24) = W (Proc.devRef .tc main_v24) ∧ segQ2 W (Proc.devRef .tc main_v29) = W (Proc.devRef .tc main_v29) := by
  constructor <;> (unfold segQ2; after_reads_simp)

theorem Q3_scale (h : Fin 40) : (segQ3 W (Proc.devRef .tc main_v45) : FVec Ideal S2x57x40 .f32) (ix3 b p h)
    = if asF (s := S2x57x40) (φ := .f32) (W (Proc.devRef .tc main_v35)) (ix3 b p h) < Ideal.ofBits .f32 0x00800000#32 then (1 : EReal)
      else ⨅ k : Fin 253, Scalar.select ((W (Proc.devRef .tc main_v40) : IVec S2x57x40x253 1) (ix4 b p h k)) (asF (s := S253) (φ := .f32) (W (Proc.devRef .tc main_v24)) (ix1 k))
        (asF (s := S_) (φ := .f32) (W (Proc.devRef .tc main_cst_8)) ix0) := by
  unfold segQ3; after_reads_at
  rw [fold_min_iInf]
  exact congrArg (fun z : EReal => if asF (s := S2x57x40) (φ := .f32) (W (Proc.devRef .tc main_v35)) (ix3 b p h) < Ideal.ofBits .f32 0x00800000#32 then z else _) Ideal.ofBits_one_f32
theorem Q3_keep : segQ3 W (Proc.devRef .tc main_v29) = W (Proc.devRef .tc main_v29) := by unfold segQ3; after_reads_simp

theorem Q4_code (r : Fin 1024) (h : Fin 40) (d : Fin 16) : (segQ4 W (Proc.devRef .tc main_v52) : FVec Ideal S2x57x40x16x1024 .f32) (ix5 b p h d r)
    = min (Ideal.ofBits .f32 0x43E00000#32) (max (Ideal.ofBits .f32 0xC3E00000#32)
        (asF (s := S2x57x1024x40x16) (φ := .f32) (W (Proc.devRef .tc main_v29)) (ix5 b p r h d) * Ideal.div 1 (asF (s := S2x57x40) (φ := .f32) (W (Proc.devRef .tc main_v45)) (ix3 b p h)))) := by
  unfold segQ4; after_reads_at; rfl
theorem Q4_keep : segQ4 W (Proc.devRef .tc main_v45) = W (Proc.devRef .tc main_v45) := by unfold segQ4; after_reads_simp
theorem Q4_next (r : Fin 1024) (l : Fin 640) : (segQ4 W (Proc.devRef .tc main_v56) : FVec Ideal S2x58368x640 .f32) (ix3 b (rowIx p r) l)
    = Scalar.select ((W (Proc.devRef .tc main_v7) : IVec S58368 1) (ix1 (rowIx p r))) (patch (W (Proc.devRef .tc main_arg2)) b p r l) (0 : EReal) := by
  unfold segQ4 rowIx; after_reads_at
  exact congrArg (fun z => Scalar.select ((W (Proc.devRef .tc main_v7) : IVec S58368 1) (ix1 (rowIx p r))) (patch (W (Proc.devRef .tc main_arg2)) b p r l) z) Ideal.ofBits_zero_f32
theorem Q_next (r : Fin 1024) (l : Fin 640) : (segQ W (Proc.devRef .tc main_v56) : FVec Ideal S2x58368x640 .f32) (ix3 b (rowIx p r) l)
    = Scalar.select ((W (Proc.devRef .tc main_v7) : IVec S58368 1) (ix1 (rowIx p r))) (patch (W (Proc.devRef .tc main_arg2)) b p r l) (0 : EReal) := by
  unfold segQ
  rw [Q4_next]
  have e1 : segQ3 (segQ2 (segQ1 W)) (Proc.devRef .tc main_v7) = W (Proc.devRef .tc main_v7) := by unfold segQ3 segQ2 segQ1; after_reads_simp
  have e2 : segQ3 (segQ2 (segQ1 W)) (Proc.devRef .tc main_arg2) = W (Proc.devRef .tc main_arg2) := by unfold segQ3 segQ2 segQ1; after_reads_simp
  rw [e1, e2]

theorem Q_keep : segQ W (Proc.devRef .tc main_v18) = W (Proc.devRef .tc main_v18) ∧ segQ W (Proc.devRef .tc main_v24) = W (Proc.devRef .tc main_v24) ∧ segQ W (Proc.devRef .tc main_v7) = W (Proc.devRef .tc main_v7) ∧ segQ W (Proc.devRef .tc main_arg3) = W (Proc.devRef .tc main_arg3) := by
  refine ⟨?_, ?_, ?_, ?_⟩ <;> (unfold segQ segQ4 segQ3 segQ2 segQ1; after_reads_simp)

section
variable (n : BitVec 32) (x : Fin 1024 → Fin 640 → EReal)
  (hv : ∀ r, (W (Proc.devRef .tc main_v18) : IVec S2x57x1024 1) (ix3 b p r) = validB n p r)
  (hp : ∀ k, (W (Proc.devRef .tc main_v24) : FVec Ideal S253 .f32) (ix1 k) = pow2 k)
  (hx : ∀ r l, (W (Proc.devRef .tc main_v28) : FVec Ideal S2x58368x640 .f32) (ix3 b (rowIx p r) l) = xin p x r l)
include hv hp hx

theorem Q_amax (h : Fin 40) : (segQ2 (segQ1 W) (Proc.devRef .tc main_v35) : FVec Ideal S2x57x40 .f32) (ix3 b p h) = amax n p x h := by
  rw [Q2_max]
  dsimp only [asF]
  unfold amax size
  refine congrArg (fun z : EReal => z * _) (iSup_congr fun r => iSup_congr fun d => ?_)
  rw [Q1_size, hv, hx]

theorem Q_scale3 (h : Fin 40) : (segQ3 (segQ2 (segQ1 W)) (Proc.devRef .tc main_v45) : FVec Ideal S2x57x40 .f32) (ix3 b p h) = scale n p x h := by
  rw [Q3_scale]
  have ha : asF (s := S2x57x40) (φ := .f32) (segQ2 (segQ1 W) (Proc.devRef .tc main_v35)) (ix3 b p h) = amax n p x h := Q_amax W b p n x hv hp hx h
  rw [ha, Q2_inf]
  unfold scale scaleOf
  refine congrArg (fun z : EReal => if amax n p x h < Ideal.ofBits .f32 0x00800000#32 then (1 : EReal) else z) (iInf_congr fun k => ?_)
  have hw : asF (s := S253) (φ := .f32) (segQ2 (segQ1 W) (Proc.devRef .tc main_v24)) (ix1 k) = pow2 k := by
    dsimp only [asF]
    rw [(Q2_keep _).1, Q1_keep]; exact hp k
  have hg : (segQ2 (segQ1 W) (Proc.devRef .tc main_v40) : IVec S2x57x40x253 1) (ix4 b p h k) = FloatOps.cmpf (F := Ideal) (φ := .f32) .ogt (pow2 k) (amax n p x h) := by
    rw [Q2_gt, Q_amax W b p n x hv hp hx, Q1_keep, hp]
  rw [hw, hg]
  by_cases hk : amax n p x h < pow2 k
  · rw [if_pos hk]
    exact if_pos (congrArg BitVec.ofBool (decide_eq_true hk))
  · rw [if_neg hk]
    exact if_neg fun hh => hk (of_decide_eq_true ((by decide : ∀ c : Bool, BitVec.ofBool c = 1#1 → c = true) _ hh))

theorem Q_scale (h : Fin 40) : (segQ W (Proc.devRef .tc main_v45) : FVec Ideal S2x57x40 .f32) (ix3 b p h) = scale n p x h := by
  unfold segQ
  rw [Q4_keep]
  exact Q_scale3 W b p n x hv hp hx h

theorem Q_code (r : Fin 1024) (h : Fin 40) (d : Fin 16) : (segQ W (Proc.devRef .tc main_v52) : FVec Ideal S2x57x40x16x1024 .f32) (ix5 b p h d r)
    = code n p x r (lane h d) := by
  unfold segQ
  rw [Q4_code]
  have hs : asF (s := S2x57x40) (φ := .f32) (segQ3 (segQ2 (segQ1 W)) (Proc.devRef .tc main_v45)) (ix3 b p h) = scale n p x h := Q_scale3 W b p n x hv hp hx h
  have hx5 : asF (s := S2x57x1024x40x16) (φ := .f32) (segQ3 (segQ2 (segQ1 W)) (Proc.devRef .tc main_v29)) (ix5 b p r h d) = xin p x r (lane h d) := by
    dsimp only [asF]
    rw [Q3_keep, (Q2_keep _).2, Q1_x]; exact hx _ _
  rw [hs, hx5]
  unfold code
  rw [headOf_lane]

end

end Cert.ReferenceIdeal.Hand

end
-- ==== Proof.RK.lean ====
/- The reference's quantiser of k, read at an index. -/
module

public import proofs.«01_k».proof.Proof.RHost

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

variable (W : Valuation τ sig (Elt Ideal)) (b : Fin 2) (p : Fin 57)

/-! ## The quantiser of k -/

def segK1 : Valuation τ sig (Elt Ideal) := StableHlo.after hostOps0_13 (StableHlo.after hostOps0_12 W)
def segK2 : Valuation τ sig (Elt Ideal) := StableHlo.after hostOps0_14 W
def segK3 : Valuation τ sig (Elt Ideal) := StableHlo.after hostOps0_17 (StableHlo.after hostOps0_16 (StableHlo.after hostOps0_15 W))
def segK4 : Valuation τ sig (Elt Ideal) := StableHlo.after hostOps0_21 (StableHlo.after hostOps0_20 (StableHlo.after hostOps0_19 (StableHlo.after hostOps0_18 W)))
def segK : Valuation τ sig (Elt Ideal) := segK4 (segK3 (segK2 (segK1 W)))

theorem K1_x (r : Fin 1024) (h : Fin 40) (d : Fin 16) : (segK1 W (Proc.devRef .tc main_v57) : FVec Ideal S2x57x1024x40x16 .f32) (ix5 b p r h d)
    = (W (Proc.devRef .tc main_v56) : FVec Ideal S2x58368x640 .f32) (ix3 b (rowIx p r) (lane h d)) := by
  unfold segK1; after_reads_at; rfl
theorem K1_size (r : Fin 1024) (h : Fin 40) (d : Fin 16) : (segK1 W (Proc.devRef .tc main_v60) : FVec Ideal S2x57x1024x40x16 .f32) (ix5 b p r h d)
    = Scalar.select ((W (Proc.devRef .tc main_v18) : IVec S2x57x1024 1) (ix3 b p r))
        (FloatOps.absf (F := Ideal) (φ := .f32) ((W (Proc.devRef .tc main_v56) : FVec Ideal S2x58368x640 .f32) (ix3 b (rowIx p r) (lane h d)))) (0 : EReal) := by
  unfold segK1; after_reads_at
  exact congrArg (fun z => Scalar.select ((W (Proc.devRef .tc main_v18) : IVec S2x57x1024 1) (ix3 b p r))
        (FloatOps.absf (F := Ideal) (φ := .f32) ((W (Proc.devRef .tc main_v56) : FVec Ideal S2x58368x640 .f32) (ix3 b (rowIx p r) (lane h d)))) z) Ideal.ofBits_zero_f32
theorem K1_keep : segK1 W (Proc.devRef .tc main_v24) = W (Proc.devRef .tc main_v24) := by unfold segK1; after_reads_simp

theorem K2_max (h : Fin 40) : (segK2 W (Proc.devRef .tc main_v63) : FVec Ideal S2x57x40 .f32) (ix3 b p h)
    = (⨆ r : Fin 1024, ⨆ d : Fin 16, asF (s := S2x57x1024x40x16) (φ := .f32) (W (Proc.devRef .tc main_v60)) (ix5 b p r h d)) * Ideal.ofBits .f32 0x3B124925#32 := by
  rw [← reduce_max]
  unfold segK2; after_reads_simp
  exact mul_at _ _ _
theorem K2_gt (h : Fin 40) (k : Fin 253) : (segK2 W (Proc.devRef .tc main_v68) : IVec S2x57x40x253 1) (ix4 b p h k)
    = FloatOps.cmpf (F := Ideal) (φ := .f32) .ogt ((W (Proc.devRef .tc main_v24) : FVec Ideal S253 .f32) (ix1 k)) ((segK2 W (Proc.devRef .tc main_v63) : FVec Ideal S2x57x40 .f32) (ix3 b p h)) := by
  unfold segK2; after_reads_simp
  exact gt_at _ _ _ _ _ _
theorem K2_inf : asF (s := S_) (φ := .f32) (segK2 W (Proc.devRef .tc main_cst_19)) ix0 = ⊤ := by
  dsimp only [asF]
  unfold segK2; after_reads_simp
  exact ofBits_pinf
theorem K2_keep : segK2 W (Proc.devRef .tc main_v24) = W (Proc.devRef .tc main_v24) ∧ segK2 W (Proc.devRef .tc main_v57) = W (Proc.devRef .tc main_v57) := by
  constructor <;> (unfold segK2; after_reads_simp)

theorem K3_scale (h : Fin 40) : (segK3 W (Proc.devRef .tc main_v73) : FVec Ideal S2x57x40 .f32) (ix3 b p h)
    = if asF (s := S2x57x40) (φ := .f32) (W (Proc.devRef .tc main_v63)) (ix3 b p h) < Ideal.ofBits .f32 0x00800000#32 then (1 : EReal)
      else ⨅ k : Fin 253, Scalar.select ((W (Proc.devRef .tc main_v68) : IVec S2x57x40x253 1) (ix4 b p h k)) (asF (s := S253) (φ := .f32) (W (Proc.devRef .tc main_v24)) (ix1 k))
        (asF (s := S_) (φ := .f32) (W (Proc.devRef .tc main_cst_19)) ix0) := by
  unfold segK3; after_reads_at
  rw [fold_min_iInf]
  exact congrArg (fun z : EReal => if asF (s := S2x57x40) (φ := .f32) (W (Proc.devRef .tc main_v63)) (ix3 b p h) < Ideal.ofBits .f32 0x00800000#32 then z else _) Ideal.ofBits_one_f32
theorem K3_keep : segK3 W (Proc.devRef .tc main_v57) = W (Proc.devRef .tc main_v57) := by unfold segK3; after_reads_simp

theorem K4_code (r : Fin 1024) (h : Fin 40) (d : Fin 16) : (segK4 W (Proc.devRef .tc main_v80) : FVec Ideal S2x57x40x16x1024 .f32) (ix5 b p h d r)
    = min (Ideal.ofBits .f32 0x43E00000#32) (max (Ideal.ofBits .f32 0xC3E00000#32)
        (asF (s := S2x57x1024x40x16) (φ := .f32) (W (Proc.devRef .tc main_v57)) (ix5 b p r h d) * Ideal.div 1 (asF (s := S2x57x40) (φ := .f32) (W (Proc.devRef .tc main_v73)) (ix3 b p h)))) := by
  unfold segK4; after_reads_at; rfl
theorem K4_keep : segK4 W (Proc.devRef .tc main_v73) = W (Proc.devRef .tc main_v73) := by unfold segK4; after_reads_simp
theorem K4_next (r : Fin 1024) (l : Fin 640) : (segK4 W (Proc.devRef .tc main_v84) : FVec Ideal S2x58368x640 .f32) (ix3 b (rowIx p r) l)
    = Scalar.select ((W (Proc.devRef .tc main_v7) : IVec S58368 1) (ix1 (rowIx p r))) (patch (W (Proc.devRef .tc main_arg3)) b p r l) (0 : EReal) := by
  unfold segK4 rowIx; after_reads_at
  exact congrArg (fun z => Scalar.select ((W (Proc.devRef .tc main_v7) : IVec S58368 1) (ix1 (rowIx p r))) (patch (W (Proc.devRef .tc main_arg3)) b p r l) z) Ideal.ofBits_zero_f32
theorem K_next (r : Fin 1024) (l : Fin 640) : (segK W (Proc.devRef .tc main_v84) : FVec Ideal S2x58368x640 .f32) (ix3 b (rowIx p r) l)
    = Scalar.select ((W (Proc.devRef .tc main_v7) : IVec S58368 1) (ix1 (rowIx p r))) (patch (W (Proc.devRef .tc main_arg3)) b p r l) (0 : EReal) := by
  unfold segK
  rw [K4_next]
  have e1 : segK3 (segK2 (segK1 W)) (Proc.devRef .tc main_v7) = W (Proc.devRef .tc main_v7) := by unfold segK3 segK2 segK1; after_reads_simp
  have e2 : segK3 (segK2 (segK1 W)) (Proc.devRef .tc main_arg3) = W (Proc.devRef .tc main_arg3) := by unfold segK3 segK2 segK1; after_reads_simp
  rw [e1, e2]

theorem K_keep : segK W (Proc.devRef .tc main_v18) = W (Proc.devRef .tc main_v18) ∧ segK W (Proc.devRef .tc main_v24) = W (Proc.devRef .tc main_v24) ∧ segK W (Proc.devRef .tc main_v45) = W (Proc.devRef .tc main_v45) ∧ segK W (Proc.devRef .tc main_v52) = W (Proc.devRef .tc main_v52) := by
  refine ⟨?_, ?_, ?_, ?_⟩ <;> (unfold segK segK4 segK3 segK2 segK1; after_reads_simp)

section
variable (n : BitVec 32) (x : Fin 1024 → Fin 640 → EReal)
  (hv : ∀ r, (W (Proc.devRef .tc main_v18) : IVec S2x57x1024 1) (ix3 b p r) = validB n p r)
  (hp : ∀ k, (W (Proc.devRef .tc main_v24) : FVec Ideal S253 .f32) (ix1 k) = pow2 k)
  (hx : ∀ r l, (W (Proc.devRef .tc main_v56) : FVec Ideal S2x58368x640 .f32) (ix3 b (rowIx p r) l) = xin p x r l)
include hv hp hx

theorem K_amax (h : Fin 40) : (segK2 (segK1 W) (Proc.devRef .tc main_v63) : FVec Ideal S2x57x40 .f32) (ix3 b p h) = amax n p x h := by
  rw [K2_max]
  dsimp only [asF]
  unfold amax size
  refine congrArg (fun z : EReal => z * _) (iSup_congr fun r => iSup_congr fun d => ?_)
  rw [K1_size, hv, hx]

theorem K_scale3 (h : Fin 40) : (segK3 (segK2 (segK1 W)) (Proc.devRef .tc main_v73) : FVec Ideal S2x57x40 .f32) (ix3 b p h) = scale n p x h := by
  rw [K3_scale]
  have ha : asF (s := S2x57x40) (φ := .f32) (segK2 (segK1 W) (Proc.devRef .tc main_v63)) (ix3 b p h) = amax n p x h := K_amax W b p n x hv hp hx h
  rw [ha, K2_inf]
  unfold scale scaleOf
  refine congrArg (fun z : EReal => if amax n p x h < Ideal.ofBits .f32 0x00800000#32 then (1 : EReal) else z) (iInf_congr fun k => ?_)
  have hw : asF (s := S253) (φ := .f32) (segK2 (segK1 W) (Proc.devRef .tc main_v24)) (ix1 k) = pow2 k := by
    dsimp only [asF]
    rw [(K2_keep _).1, K1_keep]; exact hp k
  have hg : (segK2 (segK1 W) (Proc.devRef .tc main_v68) : IVec S2x57x40x253 1) (ix4 b p h k) = FloatOps.cmpf (F := Ideal) (φ := .f32) .ogt (pow2 k) (amax n p x h) := by
    rw [K2_gt, K_amax W b p n x hv hp hx, K1_keep, hp]
  rw [hw, hg]
  by_cases hk : amax n p x h < pow2 k
  · rw [if_pos hk]
    exact if_pos (congrArg BitVec.ofBool (decide_eq_true hk))
  · rw [if_neg hk]
    exact if_neg fun hh => hk (of_decide_eq_true ((by decide : ∀ c : Bool, BitVec.ofBool c = 1#1 → c = true) _ hh))

theorem K_scale (h : Fin 40) : (segK W (Proc.devRef .tc main_v73) : FVec Ideal S2x57x40 .f32) (ix3 b p h) = scale n p x h := by
  unfold segK
  rw [K4_keep]
  exact K_scale3 W b p n x hv hp hx h

theorem K_code (r : Fin 1024) (h : Fin 40) (d : Fin 16) : (segK W (Proc.devRef .tc main_v80) : FVec Ideal S2x57x40x16x1024 .f32) (ix5 b p h d r)
    = code n p x r (lane h d) := by
  unfold segK
  rw [K4_code]
  have hs : asF (s := S2x57x40) (φ := .f32) (segK3 (segK2 (segK1 W)) (Proc.devRef .tc main_v73)) (ix3 b p h) = scale n p x h := K_scale3 W b p n x hv hp hx h
  have hx5 : asF (s := S2x57x1024x40x16) (φ := .f32) (segK3 (segK2 (segK1 W)) (Proc.devRef .tc main_v57)) (ix5 b p r h d) = xin p x r (lane h d) := by
    dsimp only [asF]
    rw [K3_keep, (K2_keep _).2, K1_x]; exact hx _ _
  rw [hs, hx5]
  unfold code
  rw [headOf_lane]

end

end Cert.ReferenceIdeal.Hand

end
-- ==== Proof.RV.lean ====
/- The reference's quantiser of v, read at an index. -/
module

public import proofs.«01_k».proof.Proof.RHost

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

variable (W : Valuation τ sig (Elt Ideal)) (b : Fin 2) (p : Fin 57)

/-! ## The quantiser of v -/

def segV1 : Valuation τ sig (Elt Ideal) := StableHlo.after hostOps0_23 (StableHlo.after hostOps0_22 W)
def segV2 : Valuation τ sig (Elt Ideal) := StableHlo.after hostOps0_24 W
def segV3 : Valuation τ sig (Elt Ideal) := StableHlo.after hostOps0_27 (StableHlo.after hostOps0_26 (StableHlo.after hostOps0_25 W))
def segV4 : Valuation τ sig (Elt Ideal) := StableHlo.after hostOps0_30 (StableHlo.after hostOps0_29 (StableHlo.after hostOps0_28 W))
def segV : Valuation τ sig (Elt Ideal) := segV4 (segV3 (segV2 (segV1 W)))

theorem V1_x (r : Fin 1024) (h : Fin 40) (d : Fin 16) : (segV1 W (Proc.devRef .tc main_v85) : FVec Ideal S2x57x1024x40x16 .f32) (ix5 b p r h d)
    = (W (Proc.devRef .tc main_v84) : FVec Ideal S2x58368x640 .f32) (ix3 b (rowIx p r) (lane h d)) := by
  unfold segV1; after_reads_at; rfl
theorem V1_size (r : Fin 1024) (h : Fin 40) (d : Fin 16) : (segV1 W (Proc.devRef .tc main_v88) : FVec Ideal S2x57x1024x40x16 .f32) (ix5 b p r h d)
    = Scalar.select ((W (Proc.devRef .tc main_v18) : IVec S2x57x1024 1) (ix3 b p r))
        (FloatOps.absf (F := Ideal) (φ := .f32) ((W (Proc.devRef .tc main_v84) : FVec Ideal S2x58368x640 .f32) (ix3 b (rowIx p r) (lane h d)))) (0 : EReal) := by
  unfold segV1; after_reads_at
  exact congrArg (fun z => Scalar.select ((W (Proc.devRef .tc main_v18) : IVec S2x57x1024 1) (ix3 b p r))
        (FloatOps.absf (F := Ideal) (φ := .f32) ((W (Proc.devRef .tc main_v84) : FVec Ideal S2x58368x640 .f32) (ix3 b (rowIx p r) (lane h d)))) z) Ideal.ofBits_zero_f32
theorem V1_keep : segV1 W (Proc.devRef .tc main_v24) = W (Proc.devRef .tc main_v24) := by unfold segV1; after_reads_simp

theorem V2_max (h : Fin 40) : (segV2 W (Proc.devRef .tc main_v91) : FVec Ideal S2x57x40 .f32) (ix3 b p h)
    = (⨆ r : Fin 1024, ⨆ d : Fin 16, asF (s := S2x57x1024x40x16) (φ := .f32) (W (Proc.devRef .tc main_v88)) (ix5 b p r h d)) * Ideal.ofBits .f32 0x3B124925#32 := by
  rw [← reduce_max]
  unfold segV2; after_reads_simp
  exact mul_at _ _ _
theorem V2_gt (h : Fin 40) (k : Fin 253) : (segV2 W (Proc.devRef .tc main_v96) : IVec S2x57x40x253 1) (ix4 b p h k)
    = FloatOps.cmpf (F := Ideal) (φ := .f32) .ogt ((W (Proc.devRef .tc main_v24) : FVec Ideal S253 .f32) (ix1 k)) ((segV2 W (Proc.devRef .tc main_v91) : FVec Ideal S2x57x40 .f32) (ix3 b p h)) := by
  unfold segV2; after_reads_simp
  exact gt_at _ _ _ _ _ _
theorem V2_inf : asF (s := S_) (φ := .f32) (segV2 W (Proc.devRef .tc main_cst_30)) ix0 = ⊤ := by
  dsimp only [asF]
  unfold segV2; after_reads_simp
  exact ofBits_pinf
theorem V2_keep : segV2 W (Proc.devRef .tc main_v24) = W (Proc.devRef .tc main_v24) ∧ segV2 W (Proc.devRef .tc main_v85) = W (Proc.devRef .tc main_v85) := by
  constructor <;> (unfold segV2; after_reads_simp)

theorem V3_scale (h : Fin 40) : (segV3 W (Proc.devRef .tc main_v101) : FVec Ideal S2x57x40 .f32) (ix3 b p h)
    = if asF (s := S2x57x40) (φ := .f32) (W (Proc.devRef .tc main_v91)) (ix3 b p h) < Ideal.ofBits .f32 0x00800000#32 then (1 : EReal)
      else ⨅ k : Fin 253, Scalar.select ((W (Proc.devRef .tc main_v96) : IVec S2x57x40x253 1) (ix4 b p h k)) (asF (s := S253) (φ := .f32) (W (Proc.devRef .tc main_v24)) (ix1 k))
        (asF (s := S_) (φ := .f32) (W (Proc.devRef .tc main_cst_30)) ix0) := by
  unfold segV3; after_reads_at
  rw [fold_min_iInf]
  exact congrArg (fun z : EReal => if asF (s := S2x57x40) (φ := .f32) (W (Proc.devRef .tc main_v91)) (ix3 b p h) < Ideal.ofBits .f32 0x00800000#32 then z else _) Ideal.ofBits_one_f32
theorem V3_keep : segV3 W (Proc.devRef .tc main_v85) = W (Proc.devRef .tc main_v85) := by unfold segV3; after_reads_simp

theorem V4_code (r : Fin 1024) (h : Fin 40) (d : Fin 16) : (segV4 W (Proc.devRef .tc main_v108) : FVec Ideal S2x57x40x16x1024 .f32) (ix5 b p h d r)
    = min (Ideal.ofBits .f32 0x43E00000#32) (max (Ideal.ofBits .f32 0xC3E00000#32)
        (asF (s := S2x57x1024x40x16) (φ := .f32) (W (Proc.devRef .tc main_v85)) (ix5 b p r h d) * Ideal.div 1 (asF (s := S2x57x40) (φ := .f32) (W (Proc.devRef .tc main_v101)) (ix3 b p h)))) := by
  unfold segV4; after_reads_at; rfl
theorem V4_keep : segV4 W (Proc.devRef .tc main_v101) = W (Proc.devRef .tc main_v101) := by unfold segV4; after_reads_simp

theorem V_keep : segV W (Proc.devRef .tc main_v18) = W (Proc.devRef .tc main_v18) ∧ segV W (Proc.devRef .tc main_v45) = W (Proc.devRef .tc main_v45) ∧ segV W (Proc.devRef .tc main_v52) = W (Proc.devRef .tc main_v52) ∧ segV W (Proc.devRef .tc main_v73) = W (Proc.devRef .tc main_v73) ∧ segV W (Proc.devRef .tc main_v80) = W (Proc.devRef .tc main_v80) := by
  refine ⟨?_, ?_, ?_, ?_, ?_⟩ <;> (unfold segV segV4 segV3 segV2 segV1; after_reads_simp)

section
variable (n : BitVec 32) (x : Fin 1024 → Fin 640 → EReal)
  (hv : ∀ r, (W (Proc.devRef .tc main_v18) : IVec S2x57x1024 1) (ix3 b p r) = validB n p r)
  (hp : ∀ k, (W (Proc.devRef .tc main_v24) : FVec Ideal S253 .f32) (ix1 k) = pow2 k)
  (hx : ∀ r l, (W (Proc.devRef .tc main_v84) : FVec Ideal S2x58368x640 .f32) (ix3 b (rowIx p r) l) = xin p x r l)
include hv hp hx

theorem V_amax (h : Fin 40) : (segV2 (segV1 W) (Proc.devRef .tc main_v91) : FVec Ideal S2x57x40 .f32) (ix3 b p h) = amax n p x h := by
  rw [V2_max]
  dsimp only [asF]
  unfold amax size
  refine congrArg (fun z : EReal => z * _) (iSup_congr fun r => iSup_congr fun d => ?_)
  rw [V1_size, hv, hx]

theorem V_scale3 (h : Fin 40) : (segV3 (segV2 (segV1 W)) (Proc.devRef .tc main_v101) : FVec Ideal S2x57x40 .f32) (ix3 b p h) = scale n p x h := by
  rw [V3_scale]
  have ha : asF (s := S2x57x40) (φ := .f32) (segV2 (segV1 W) (Proc.devRef .tc main_v91)) (ix3 b p h) = amax n p x h := V_amax W b p n x hv hp hx h
  rw [ha, V2_inf]
  unfold scale scaleOf
  refine congrArg (fun z : EReal => if amax n p x h < Ideal.ofBits .f32 0x00800000#32 then (1 : EReal) else z) (iInf_congr fun k => ?_)
  have hw : asF (s := S253) (φ := .f32) (segV2 (segV1 W) (Proc.devRef .tc main_v24)) (ix1 k) = pow2 k := by
    dsimp only [asF]
    rw [(V2_keep _).1, V1_keep]; exact hp k
  have hg : (segV2 (segV1 W) (Proc.devRef .tc main_v96) : IVec S2x57x40x253 1) (ix4 b p h k) = FloatOps.cmpf (F := Ideal) (φ := .f32) .ogt (pow2 k) (amax n p x h) := by
    rw [V2_gt, V_amax W b p n x hv hp hx, V1_keep, hp]
  rw [hw, hg]
  by_cases hk : amax n p x h < pow2 k
  · rw [if_pos hk]
    exact if_pos (congrArg BitVec.ofBool (decide_eq_true hk))
  · rw [if_neg hk]
    exact if_neg fun hh => hk (of_decide_eq_true ((by decide : ∀ c : Bool, BitVec.ofBool c = 1#1 → c = true) _ hh))

theorem V_scale (h : Fin 40) : (segV W (Proc.devRef .tc main_v101) : FVec Ideal S2x57x40 .f32) (ix3 b p h) = scale n p x h := by
  unfold segV
  rw [V4_keep]
  exact V_scale3 W b p n x hv hp hx h

theorem V_code (r : Fin 1024) (h : Fin 40) (d : Fin 16) : (segV W (Proc.devRef .tc main_v108) : FVec Ideal S2x57x40x16x1024 .f32) (ix5 b p h d r)
    = code n p x r (lane h d) := by
  unfold segV
  rw [V4_code]
  have hs : asF (s := S2x57x40) (φ := .f32) (segV3 (segV2 (segV1 W)) (Proc.devRef .tc main_v101)) (ix3 b p h) = scale n p x h := V_scale3 W b p n x hv hp hx h
  have hx5 : asF (s := S2x57x1024x40x16) (φ := .f32) (segV3 (segV2 (segV1 W)) (Proc.devRef .tc main_v85)) (ix5 b p r h d) = xin p x r (lane h d) := by
    dsimp only [asF]
    rw [V3_keep, (V2_keep _).2, V1_x]; exact hx _ _
  rw [hs, hx5]
  unfold code
  rw [headOf_lane]

end

end Cert.ReferenceIdeal.Hand

end
-- ==== Proof.RCall.lean ====
/- The reference's call, which casts: what its result arrays hold, over the extended reals, where a cast is the identity. -/
module

public import proofs.«01_k».proof.Proof.RHost
public import Idealize.ShloMosaic.Lib.Pipeline.ValueKit.Geometry

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

theorem zeros5 : (![0, 0, 0, 0, 0] : Fin S2x57x40x16x1024.rank → Nat) = fun _ => 0 := by
  funext a; fin_cases a <;> rfl

variable (x0 x1 x2 : Vec Ideal S2x57x40x16x1024 .f32)

theorem out3_eq : (out0_3 x0 x1 x2 : S2x57x40x16x1024.Idx → EReal) = x0 := by
  unfold out0_3
  rw [View.canon_unit_zero zeros5, View.ld_unit_zero zeros5]
  funext j
  pointwise [k0_pay3]
theorem out4_eq : (out0_4 x0 x1 x2 : S2x57x40x16x1024.Idx → EReal) = x1 := by
  unfold out0_4
  rw [View.canon_unit_zero zeros5, View.ld_unit_zero zeros5]
  funext j
  pointwise [k0_pay4]
theorem out5_eq : (out0_5 x0 x1 x2 : S2x57x40x16x1024.Idx → EReal) = x2 := by
  unfold out0_5
  rw [View.canon_unit_zero zeros5, View.ld_unit_zero zeros5]
  funext j
  pointwise [k0_pay5]
theorem out6_eq : (out0_6 x0 x1 x2 : S2x57x40x16x1024.Idx → EReal) = x0 := by
  unfold out0_6
  rw [View.canon_unit_zero zeros5, View.ld_unit_zero zeros5]
  funext j
  pointwise [k0_pay6]
theorem out7_eq : (out0_7 x0 x1 x2 : S2x57x40x16x1024.Idx → EReal) = x1 := by
  unfold out0_7
  rw [View.canon_unit_zero zeros5, View.ld_unit_zero zeros5]
  funext j
  pointwise [k0_pay1]
theorem out8_eq : (out0_8 x0 x1 x2 : S2x57x40x16x1024.Idx → EReal) = x2 := by
  unfold out0_8
  rw [View.canon_unit_zero zeros5, View.ld_unit_zero zeros5]
  funext j
  pointwise [k0_pay2]

variable (m : (ℓ : Loc nD τ sig) → Buf (Elt Ideal) ℓ) (c : Dev nD)

theorem arr3 : (dats m 0 c).arrAt 3 cfg0.N = (V m c main_v52 : S2x57x40x16x1024.Idx → EReal) := by
  obtain ⟨X, hX⟩ : ∃ X : S2x57x40x16x1024.Idx → EReal, X = V m c main_v52 := ⟨_, rfl⟩
  rw [← hX]
  refine (dats m 0 c).arrAt_eq_of_covers 3 X (by decide +kernel) (fun t hf y => ?_) (show (cfg0.win 3).arr.IsWhole from Memref.isWhole_whole main_v109_0)
  refine (cast_eq _ _).trans ((congrFun (after0_3 m c t) _).trans ((congrFun (out3_eq (iblk m c 0 t) (iblk m c 1 t) (iblk m c 2 t)) _).trans ?_))
  have e : iblk m c 0 t = fun y => X (((cfg0.win 0).blk t).view.emb y) := by
    unfold iblk
    rw [show V m c (Pipeline.arrRef spec0 0) = X from hX.symm]
    rfl
  refine (congrFun e _).trans (congrArg X (funext fun a => Fin.ext ?_))
  exact (Pipeline.Window.rect_emb_val (cfg0.win 0) t y a).trans (Pipeline.Window.rect_emb_val (cfg0.win 3) t y a).symm
theorem arr4 : (dats m 0 c).arrAt 4 cfg0.N = (V m c main_v80 : S2x57x40x16x1024.Idx → EReal) := by
  obtain ⟨X, hX⟩ : ∃ X : S2x57x40x16x1024.Idx → EReal, X = V m c main_v80 := ⟨_, rfl⟩
  rw [← hX]
  refine (dats m 0 c).arrAt_eq_of_covers 4 X (by decide +kernel) (fun t hf y => ?_) (show (cfg0.win 4).arr.IsWhole from Memref.isWhole_whole main_v109_1)
  refine (cast_eq _ _).trans ((congrFun (after0_4 m c t) _).trans ((congrFun (out4_eq (iblk m c 0 t) (iblk m c 1 t) (iblk m c 2 t)) _).trans ?_))
  have e : iblk m c 1 t = fun y => X (((cfg0.win 1).blk t).view.emb y) := by
    unfold iblk
    rw [show V m c (Pipeline.arrRef spec0 1) = X from hX.symm]
    rfl
  refine (congrFun e _).trans (congrArg X (funext fun a => Fin.ext ?_))
  exact (Pipeline.Window.rect_emb_val (cfg0.win 1) t y a).trans (Pipeline.Window.rect_emb_val (cfg0.win 4) t y a).symm
theorem arr5 : (dats m 0 c).arrAt 5 cfg0.N = (V m c main_v108 : S2x57x40x16x1024.Idx → EReal) := by
  obtain ⟨X, hX⟩ : ∃ X : S2x57x40x16x1024.Idx → EReal, X = V m c main_v108 := ⟨_, rfl⟩
  rw [← hX]
  refine (dats m 0 c).arrAt_eq_of_covers 5 X (by decide +kernel) (fun t hf y => ?_) (show (cfg0.win 5).arr.IsWhole from Memref.isWhole_whole main_v109_2)
  refine (cast_eq _ _).trans ((congrFun (after0_5 m c t) _).trans ((congrFun (out5_eq (iblk m c 0 t) (iblk m c 1 t) (iblk m c 2 t)) _).trans ?_))
  have e : iblk m c 2 t = fun y => X (((cfg0.win 2).blk t).view.emb y) := by
    unfold iblk
    rw [show V m c (Pipeline.arrRef spec0 2) = X from hX.symm]
    rfl
  refine (congrFun e _).trans (congrArg X (funext fun a => Fin.ext ?_))
  exact (Pipeline.Window.rect_emb_val (cfg0.win 2) t y a).trans (Pipeline.Window.rect_emb_val (cfg0.win 5) t y a).symm
theorem arr6 : (dats m 0 c).arrAt 6 cfg0.N = (V m c main_v52 : S2x57x40x16x1024.Idx → EReal) := by
  obtain ⟨X, hX⟩ : ∃ X : S2x57x40x16x1024.Idx → EReal, X = V m c main_v52 := ⟨_, rfl⟩
  rw [← hX]
  refine (dats m 0 c).arrAt_eq_of_covers 6 X (by decide +kernel) (fun t hf y => ?_) (show (cfg0.win 6).arr.IsWhole from Memref.isWhole_whole main_v109_3)
  refine (cast_eq _ _).trans ((congrFun (after0_6 m c t) _).trans ((congrFun (out6_eq (iblk m c 0 t) (iblk m c 1 t) (iblk m c 2 t)) _).trans ?_))
  have e : iblk m c 0 t = fun y => X (((cfg0.win 0).blk t).view.emb y) := by
    unfold iblk
    rw [show V m c (Pipeline.arrRef spec0 0) = X from hX.symm]
    rfl
  refine (congrFun e _).trans (congrArg X (funext fun a => Fin.ext ?_))
  exact (Pipeline.Window.rect_emb_val (cfg0.win 0) t y a).trans (Pipeline.Window.rect_emb_val (cfg0.win 6) t y a).symm
theorem arr7 : (dats m 0 c).arrAt 7 cfg0.N = (V m c main_v80 : S2x57x40x16x1024.Idx → EReal) := by
  obtain ⟨X, hX⟩ : ∃ X : S2x57x40x16x1024.Idx → EReal, X = V m c main_v80 := ⟨_, rfl⟩
  rw [← hX]
  refine (dats m 0 c).arrAt_eq_of_covers 7 X (by decide +kernel) (fun t hf y => ?_) (show (cfg0.win 7).arr.IsWhole from Memref.isWhole_whole main_v109_4)
  refine (cast_eq _ _).trans ((congrFun (after0_7 m c t) _).trans ((congrFun (out7_eq (iblk m c 0 t) (iblk m c 1 t) (iblk m c 2 t)) _).trans ?_))
  have e : iblk m c 1 t = fun y => X (((cfg0.win 1).blk t).view.emb y) := by
    unfold iblk
    rw [show V m c (Pipeline.arrRef spec0 1) = X from hX.symm]
    rfl
  refine (congrFun e _).trans (congrArg X (funext fun a => Fin.ext ?_))
  exact (Pipeline.Window.rect_emb_val (cfg0.win 1) t y a).trans (Pipeline.Window.rect_emb_val (cfg0.win 7) t y a).symm
theorem arr8 : (dats m 0 c).arrAt 8 cfg0.N = (V m c main_v108 : S2x57x40x16x1024.Idx → EReal) := by
  obtain ⟨X, hX⟩ : ∃ X : S2x57x40x16x1024.Idx → EReal, X = V m c main_v108 := ⟨_, rfl⟩
  rw [← hX]
  refine (dats m 0 c).arrAt_eq_of_covers 8 X (by decide +kernel) (fun t hf y => ?_) (show (cfg0.win 8).arr.IsWhole from Memref.isWhole_whole main_v109_5)
  refine (cast_eq _ _).trans ((congrFun (after0_8 m c t) _).trans ((congrFun (out8_eq (iblk m c 0 t) (iblk m c 1 t) (iblk m c 2 t)) _).trans ?_))
  have e : iblk m c 2 t = fun y => X (((cfg0.win 2).blk t).view.emb y) := by
    unfold iblk
    rw [show V m c (Pipeline.arrRef spec0 2) = X from hX.symm]
    rfl
  refine (congrFun e _).trans (congrArg X (funext fun a => Fin.ext ?_))
  exact (Pipeline.Window.rect_emb_val (cfg0.win 2) t y a).trans (Pipeline.Window.rect_emb_val (cfg0.win 8) t y a).symm

end Cert.ReferenceIdeal.Hand

end
-- ==== Proof.RTail.lean ====
/- The reference's host operations after the call, read at an index: the masked scores, the softmax, the output, and the
   array of scales. -/
module

public import proofs.«01_k».proof.Proof.RHost
public import proofs.«01_k».proof.Proof.Arrays

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

/-- The operations up to the masked scores, up to the attention output by head, and the rest. -/
def tail1 (W : Valuation τ sig (Elt Ideal)) : Valuation τ sig (Elt Ideal) := StableHlo.after hostOps1_1 (StableHlo.after hostOps1 W)
def tail2 (W : Valuation τ sig (Elt Ideal)) : Valuation τ sig (Elt Ideal) := StableHlo.after hostOps1_3 (StableHlo.after hostOps1_2 W)
def tail3 (W : Valuation τ sig (Elt Ideal)) : Valuation τ sig (Elt Ideal) := StableHlo.after hostOps1_4 W

variable (W : Valuation τ sig (Elt Ideal)) (b : Fin 2) (p : Fin 57) (h : Fin 40)

/-! ## The scores -/

theorem T1_v118 (i j : Fin 1024) : (tail1 W (Proc.devRef .tc main_v118) : FVec Ideal S2x57x40x1024x1024 .f32) (ix5 b p h i j)
    = Scalar.select ((W (Proc.devRef .tc main_v18) : IVec S2x57x1024 1) (ix3 b p j))
        ((∑ d : Fin 16, asF (s := S2x57x40x16x1024) (φ := .bf16) (W (Proc.devRef .tc main_v109_3)) (ix5 b p h d i)
            * asF (s := S2x57x40x16x1024) (φ := .bf16) (W (Proc.devRef .tc main_v109_4)) (ix5 b p h d j))
          * (asF (s := S2x57x40) (φ := .f32) (W (Proc.devRef .tc main_v45)) (ix3 b p h) * asF (s := S2x57x40) (φ := .f32) (W (Proc.devRef .tc main_v73)) (ix3 b p h)
              * Ideal.ofBits .f32 0x3E800000#32)) (⊥ : EReal) := by
  unfold tail1; after_reads_at
  exact congrArg (fun z : EReal => Scalar.select _ _ z) ofBits_ninf

theorem T1_keep : tail1 W (Proc.devRef .tc main_v18) = W (Proc.devRef .tc main_v18) ∧ tail1 W (Proc.devRef .tc main_v45) = W (Proc.devRef .tc main_v45)
    ∧ tail1 W (Proc.devRef .tc main_v73) = W (Proc.devRef .tc main_v73) ∧ tail1 W (Proc.devRef .tc main_v101) = W (Proc.devRef .tc main_v101)
    ∧ tail1 W (Proc.devRef .tc main_v109_5) = W (Proc.devRef .tc main_v109_5) := by
  refine ⟨?_, ?_, ?_, ?_, ?_⟩ <;> (unfold tail1; after_reads_simp)

/-! ## The softmax -/

/-- The maximum over the keys. -/
theorem reduce_top (x : FVec Ideal S2x57x40x1024x1024 .f32) (i : Fin 1024) :
    (Host.reduce FloatOps.maximumf x (constant S_ .f32 0xFF800000#32) reducesTo_S2x57x40x1024x1024_S2x57x40x1024_d4 h_S_ : FVec Ideal S2x57x40x1024 .f32) (ix4 b p h i)
      = ⨆ j : Fin 1024, (x (ix5 b p h i j) : EReal) := by
  refine eq_of_forall_ge_iff fun c => ?_
  unfold Host.reduce
  refine (foldl_max_le _ _ _ c).trans ?_
  have hb : (constant (F := Ideal) S_ .f32 0xFF800000#32 (Shape.Idx.first h_S_) : EReal) ≤ c := by
    show Ideal.ofBits .f32 0xFF800000#32 ≤ c
    rw [ofBits_ninf]; exact bot_le
  rw [iSup_le_iff]
  simp only [and_iff_right hb, List.mem_filter, List.mem_finRange, true_and, decide_eq_true_eq]
  constructor
  · intro H j
    have := H (S2x57x40x1024x1024.rowMajor (ix5 b p h i j)) (by
      rw [Equiv.symm_apply_apply]
      funext a
      fin_cases a <;> rfl)
    rwa [Equiv.symm_apply_apply] at this
  · intro H n hn
    generalize S2x57x40x1024x1024.rowMajor.symm n = q at hn ⊢
    have e : q = ix5 b p h i (q 4) := by
      have e0 : q 0 = b := Fin.ext (congrArg Fin.val (congrFun hn 0))
      have e1 : q 1 = p := Fin.ext (congrArg Fin.val (congrFun hn 1))
      have e2 : q 2 = h := Fin.ext (congrArg Fin.val (congrFun hn 2))
      have e3 : q 3 = i := Fin.ext (congrArg Fin.val (congrFun hn 3))
      funext a
      fin_cases a
      · exact e0
      · exact e1
      · exact e2
      · exact e3
      · rfl
    rw [e]
    exact H _

/-- The largest score of each query. -/
def tops (x : FVec Ideal S2x57x40x1024x1024 .f32) : FVec Ideal S2x57x40x1024 .f32 :=
  maximumf (broadcastInDim S2x57x40x1024 ![] bcast_S_S2x57x40x1024 (constant S_ .f32 0xFF800000#32))
    (Host.reduce FloatOps.maximumf x (constant S_ .f32 0xFF800000#32) reducesTo_S2x57x40x1024x1024_S2x57x40x1024_d4 h_S_)

/-- A number of each query, repeated over the keys. -/
def overKeys (y : FVec Ideal S2x57x40x1024 .f32) : FVec Ideal S2x57x40x1024x1024 .f32 :=
  broadcastInDim S2x57x40x1024x1024 ![0, 1, 2, 3, 4] bcast_S2x57x40x1024x1_S2x57x40x1024x1024_0_1_2_3_4
    (broadcastInDim S2x57x40x1024x1 ![0, 1, 2, 3] bcast_S2x57x40x1024_S2x57x40x1024x1_0_1_2_3 y)

/-- The unnormalised weights. -/
def wts (x : FVec Ideal S2x57x40x1024x1024 .f32) : FVec Ideal S2x57x40x1024x1024 .f32 := Host.exp (subf x (overKeys (tops x)))

/-- The sum over the keys. -/
def sums (e : FVec Ideal S2x57x40x1024x1024 .f32) : FVec Ideal S2x57x40x1024 .f32 :=
  Host.reduceAdd e (constant S_ .f32 0#32) reducesTo_S2x57x40x1024x1024_S2x57x40x1024_d4 h_S_

/-- The softmax. -/
def probs (x : FVec Ideal S2x57x40x1024x1024 .f32) : FVec Ideal S2x57x40x1024x1024 .f32 := Host.divf (wts x) (overKeys (sums (wts x)))

/-- The attention output by head. -/
def heads (P : FVec Ideal S2x57x40x1024x1024 .f32) (v : FVec Ideal S2x57x40x16x1024 .bf16) (s : FVec Ideal S2x57x40 .f32) : FVec Ideal S2x57x40x1024x16 .f32 :=
  mulf (Host.dotGeneral dot_S2x57x40x1024x1024_S2x57x40x16x1024_S2x57x40x1024x16_4_4_3_3_012_012 none (truncf .bf16 P bitsLt_bf16_f32) v)
    (broadcastInDim S2x57x40x1024x16 ![0, 1, 2, 3, 4] bcast_S2x57x40x1x1_S2x57x40x1024x16_0_1_2_3_4
      (broadcastInDim S2x57x40x1x1 ![0, 1, 2] bcast_S2x57x40_S2x57x40x1x1_0_1_2 s))

theorem max_at (R : FVec Ideal S2x57x40x1024 .f32) (i : Fin 1024) :
    maximumf (broadcastInDim S2x57x40x1024 ![] bcast_S_S2x57x40x1024 (constant S_ .f32 0xFF800000#32)) R (ix4 b p h i)
      = max (Ideal.ofBits .f32 0xFF800000#32) (asF R (ix4 b p h i)) := rfl

theorem tops_at (x : FVec Ideal S2x57x40x1024x1024 .f32) (i : Fin 1024) : tops x (ix4 b p h i) = ⨆ j : Fin 1024, (x (ix5 b p h i j) : EReal) := by
  unfold tops
  rw [max_at, asF, reduce_top, ofBits_ninf]
  exact max_eq_right bot_le

theorem overKeys_at (y : FVec Ideal S2x57x40x1024 .f32) (i j : Fin 1024) : overKeys y (ix5 b p h i j) = asF y (ix4 b p h i) := by
  pointwise [overKeys]

theorem wts_at (x : FVec Ideal S2x57x40x1024x1024 .f32) (i j : Fin 1024) :
    wts x (ix5 b p h i j) = Ideal.exp (asF x (ix5 b p h i j) - ⨆ j' : Fin 1024, asF x (ix5 b p h i j')) := by
  show Ideal.exp (asF x (ix5 b p h i j) - overKeys (tops x) (ix5 b p h i j)) = _
  have e : asF (tops x) (ix4 b p h i) = ⨆ j' : Fin 1024, asF x (ix5 b p h i j') := tops_at b p h x i
  rw [overKeys_at, e]

theorem sums_at (x : FVec Ideal S2x57x40x1024x1024 .f32) (i : Fin 1024) : sums x (ix4 b p h i) = ∑ j : Fin 1024, asF x (ix5 b p h i j) := by
  pointwise [sums]

theorem heads_at (P : FVec Ideal S2x57x40x1024x1024 .f32) (v : FVec Ideal S2x57x40x16x1024 .bf16) (s : FVec Ideal S2x57x40 .f32) (i : Fin 1024) (d : Fin 16) :
    heads P v s (ix5 b p h i d) = (∑ j : Fin 1024, asF P (ix5 b p h i j) * asF v (ix5 b p h d j)) * asF s (ix3 b p h) := by
  pointwise [heads]

theorem probs_at (x : FVec Ideal S2x57x40x1024x1024 .f32) (i j : Fin 1024) :
    probs x (ix5 b p h i j) = Ideal.div (wts x (ix5 b p h i j)) (∑ j' : Fin 1024, asF (wts x) (ix5 b p h i j')) := by
  show Ideal.div _ (overKeys (sums (wts x)) (ix5 b p h i j)) = _
  rw [overKeys_at, asF, sums_at]

theorem T2_heads : (StableHlo.after hostOps1_2 W (Proc.devRef .tc main_v134) : FVec Ideal S2x57x40x1024x16 .f32)
    = heads (probs (W (Proc.devRef .tc main_v118))) (W (Proc.devRef .tc main_v109_5)) (W (Proc.devRef .tc main_v101)) := by
  after_reads_simp; rfl

theorem T2_where (i : Fin 1024) (d : Fin 16) : (StableHlo.after hostOps1_3 W (Proc.devRef .tc main_v136) : FVec Ideal S2x57x40x1024x16 .f32) (ix5 b p h i d)
    = Scalar.select ((W (Proc.devRef .tc main_v135) : IVec S2x57x1x1024x1 1) (ix5 b p 0 i 0)) (asF (s := S2x57x40x1024x16) (φ := .f32) (W (Proc.devRef .tc main_v134)) (ix5 b p h i d))
        (asF (s := S_) (φ := .f32) (W (Proc.devRef .tc main_cst_42)) ix0) := by
  after_reads_at; rfl

theorem T2_mask (i : Fin 1024) : (StableHlo.after hostOps1_2 W (Proc.devRef .tc main_v135) : IVec S2x57x1x1024x1 1) (ix5 b p 0 i 0)
    = (W (Proc.devRef .tc main_v18) : IVec S2x57x1024 1) (ix3 b p i) := by after_reads_at
theorem T2_zero : (StableHlo.after hostOps1_2 W (Proc.devRef .tc main_cst_42) : FVec Ideal S_ .f32) ix0 = (0 : EReal) := by
  after_reads_at

theorem T2_v136 (i : Fin 1024) (d : Fin 16) : (tail2 W (Proc.devRef .tc main_v136) : FVec Ideal S2x57x40x1024x16 .f32) (ix5 b p h i d)
    = Scalar.select ((W (Proc.devRef .tc main_v18) : IVec S2x57x1024 1) (ix3 b p i))
        (heads (probs (W (Proc.devRef .tc main_v118))) (W (Proc.devRef .tc main_v109_5)) (W (Proc.devRef .tc main_v101)) (ix5 b p h i d)) (0 : EReal) := by
  unfold tail2
  rw [T2_where, T2_mask, asF, T2_heads, asF, T2_zero]

theorem T2_keep : tail2 W (Proc.devRef .tc main_v45) = W (Proc.devRef .tc main_v45)
    ∧ tail2 W (Proc.devRef .tc main_v73) = W (Proc.devRef .tc main_v73) ∧ tail2 W (Proc.devRef .tc main_v101) = W (Proc.devRef .tc main_v101) := by
  refine ⟨?_, ?_, ?_⟩ <;> (unfold tail2; after_reads_simp)

/-! ## The results -/

theorem T3_out (r : Fin 1024) (l : Fin 640) : (tail3 W (Proc.devRef .tc main_v139) : FVec Ideal S116736x640 .bf16) (ix2 (flatRow b p r) l)
    = asF (s := S2x57x40x1024x16) (φ := .f32) (W (Proc.devRef .tc main_v136)) (ix5 b p (headOf l) r ⟨l.val % 16, by omega⟩) := by
  unfold tail3 flatRow; after_reads_at
  refine congrArg (asF (s := S2x57x40x1024x16) (φ := .f32) (W (Proc.devRef .tc main_v136))) ?_
  congr 1 <;> apply Fin.ext
  · show (b.val * 58368 + (p.val * 1024 + r.val)) / 58368 = b.val; omega
  · show (b.val * 58368 + (p.val * 1024 + r.val)) / 1024 % 57 = p.val; omega
  · show (b.val * 58368 + (p.val * 1024 + r.val)) % 1024 = r.val; omega

theorem T3_sc (s : Fin 8) (l : Fin 640) : (tail3 W (Proc.devRef .tc main_v150) : FVec Ideal S2x57x8x640 .f32) (ix4 b p s l)
    = asF (s := S2x57x40) (φ := .f32) (if s.val = 0 then W (Proc.devRef .tc main_v45) else if s.val = 1 then W (Proc.devRef .tc main_v73) else W (Proc.devRef .tc main_v101)) (ix3 b p (headOf l)) := by
  unfold tail3
  fin_cases s
  all_goals (after_reads_at; after_reads_at; rfl)

end Cert.ReferenceIdeal.Hand

end
-- ==== Proof.RMain.lean ====
/- What the reference's results hold, over the extended reals: the arrays of `Arrays`. -/
module

public import proofs.«01_k».proof.Proof.RQ
public import proofs.«01_k».proof.Proof.RK
public import proofs.«01_k».proof.Proof.RV
public import proofs.«01_k».proof.Proof.RCall
public import proofs.«01_k».proof.Proof.RTail

@[expose] public section

set_option maxRecDepth 16384

noncomputable section

namespace Cert.ReferenceIdeal.Hand

open Cert.ReferenceIdeal Cert.ReferenceIdeal.Gen Cert.Own
open Idealize.ShloMosaic Idealize.ShloMosaic.TcCoe Idealize.SL.Sem

/-! ## Before the call -/

section

variable (L : Valuation τ sig (Elt Ideal)) (b : Fin 2) (p : Fin 57)

/-- The buffers as the call finds them, from the launch contents. -/
def pre (L : Valuation τ sig (Elt Ideal)) : Valuation τ sig (Elt Ideal) := segV (segK (segQ (segA L)))

/-- The point count of the batch row, and its patches. -/
abbrev cnt : BitVec 32 := (L (Proc.devRef .tc main_arg0) : IVec S2 32) (ix1 b)
abbrev pq : Fin 1024 → Fin 640 → EReal := patch (L (Proc.devRef .tc main_arg1)) b p
abbrev pk : Fin 1024 → Fin 640 → EReal := patch (L (Proc.devRef .tc main_arg2)) b p
abbrev pv : Fin 1024 → Fin 640 → EReal := patch (L (Proc.devRef .tc main_arg3)) b p

theorem v1 (r : Fin 1024) : (segQ (segA L) (Proc.devRef .tc main_v18) : IVec S2x57x1024 1) (ix3 b p r) = validB (cnt L b) p r := by
  rw [(Q_keep (segA L)).1]; exact A_valid L b p r
theorem w1 (k : Fin 253) : (segQ (segA L) (Proc.devRef .tc main_v24) : FVec Ideal S253 .f32) (ix1 k) = pow2 k := by
  rw [(Q_keep (segA L)).2.1]; exact A_pow L k
theorem x1 (r : Fin 1024) (l : Fin 640) : (segQ (segA L) (Proc.devRef .tc main_v56) : FVec Ideal S2x58368x640 .f32) (ix3 b (rowIx p r) l) = xin p (pk L b p) r l := by
  rw [Q_next, A_inside, (A_keep L).1]; rfl

theorem v2 (r : Fin 1024) : (segK (segQ (segA L)) (Proc.devRef .tc main_v18) : IVec S2x57x1024 1) (ix3 b p r) = validB (cnt L b) p r := by
  rw [(K_keep (segQ (segA L))).1]; exact v1 L b p r
theorem w2 (k : Fin 253) : (segK (segQ (segA L)) (Proc.devRef .tc main_v24) : FVec Ideal S253 .f32) (ix1 k) = pow2 k := by
  rw [(K_keep (segQ (segA L))).2.1]; exact w1 L k
theorem x2 (r : Fin 1024) (l : Fin 640) : (segK (segQ (segA L)) (Proc.devRef .tc main_v84) : FVec Ideal S2x58368x640 .f32) (ix3 b (rowIx p r) l) = xin p (pv L b p) r l := by
  rw [K_next, (Q_keep (segA L)).2.2.1, (Q_keep (segA L)).2.2.2, A_inside, (A_keep L).2]; rfl

theorem pre_valid (r : Fin 1024) : (pre L (Proc.devRef .tc main_v18) : IVec S2x57x1024 1) (ix3 b p r) = validB (cnt L b) p r := by
  unfold pre; rw [(V_keep _).1]; exact v2 L b p r
theorem pre_scale_q (h : Fin 40) : (pre L (Proc.devRef .tc main_v45) : FVec Ideal S2x57x40 .f32) (ix3 b p h) = scale (cnt L b) p (pq L b p) h := by
  unfold pre; rw [(V_keep _).2.1, (K_keep _).2.2.1]
  exact Q_scale (segA L) b p _ _ (A_valid L b p) (A_pow L) (A_x L b p) h
theorem pre_code_q (r : Fin 1024) (h : Fin 40) (d : Fin 16) : (pre L (Proc.devRef .tc main_v52) : FVec Ideal S2x57x40x16x1024 .f32) (ix5 b p h d r)
    = code (cnt L b) p (pq L b p) r (lane h d) := by
  unfold pre; rw [(V_keep _).2.2.1, (K_keep _).2.2.2]
  exact Q_code (segA L) b p _ _ (A_valid L b p) (A_pow L) (A_x L b p) r h d
theorem pre_scale_k (h : Fin 40) : (pre L (Proc.devRef .tc main_v73) : FVec Ideal S2x57x40 .f32) (ix3 b p h) = scale (cnt L b) p (pk L b p) h := by
  unfold pre; rw [(V_keep _).2.2.2.1]
  exact K_scale (segQ (segA L)) b p _ _ (v1 L b p) (w1 L) (x1 L b p) h
theorem pre_code_k (r : Fin 1024) (h : Fin 40) (d : Fin 16) : (pre L (Proc.devRef .tc main_v80) : FVec Ideal S2x57x40x16x1024 .f32) (ix5 b p h d r)
    = code (cnt L b) p (pk L b p) r (lane h d) := by
  unfold pre; rw [(V_keep _).2.2.2.2]
  exact K_code (segQ (segA L)) b p _ _ (v1 L b p) (w1 L) (x1 L b p) r h d
theorem pre_scale_v (h : Fin 40) : (pre L (Proc.devRef .tc main_v101) : FVec Ideal S2x57x40 .f32) (ix3 b p h) = scale (cnt L b) p (pv L b p) h :=
  V_scale (segK (segQ (segA L))) b p _ _ (v2 L b p) (w2 L) (x2 L b p) h
theorem pre_code_v (r : Fin 1024) (h : Fin 40) (d : Fin 16) : (pre L (Proc.devRef .tc main_v108) : FVec Ideal S2x57x40x16x1024 .f32) (ix5 b p h d r)
    = code (cnt L b) p (pv L b p) r (lane h d) :=
  V_code (segK (segQ (segA L))) b p _ _ (v2 L b p) (w2 L) (x2 L b p) r h d

end

variable (m : (ℓ : Loc nD τ sig) → Buf (Elt Ideal) ℓ) (c : Dev nD)

/-- The launch contents of a device's buffers. -/
def L0 : Valuation τ sig (Elt Ideal) := fun b => m (c, b)

theorem V0_eq : V0 m c = pre (L0 m c) := by
  unfold V0
  simp only [List.flatten_cons, List.flatten_nil, List.append_nil, StableHlo.after_append]
  rfl

/-! ## The codes -/

theorem codes_eq (X : FVec Ideal S2x57x40x16x1024 .f32) (n : S2.Idx → BitVec 32) (g : FVec Ideal S116736x640 .bf16)
    (H : ∀ b p r h d, X (ix5 b p h d r) = code (n (ix1 b)) p (patch g b p) r (lane h d)) : (X : S2x57x40x16x1024.Idx → EReal) = codes n g := by
  funext j
  rw [eq_ix5 j]
  exact H _ _ _ _ _

theorem res_q : (dats m 0 c).arrAt 3 cfg0.N = codes (L0 m c (Proc.devRef .tc main_arg0)) (L0 m c (Proc.devRef .tc main_arg1)) := by
  rw [arr3]
  show V0 m c _ = _
  rw [V0_eq]
  exact codes_eq _ _ _ fun b p r h d => pre_code_q (L0 m c) b p r h d
theorem res_k : (dats m 0 c).arrAt 4 cfg0.N = codes (L0 m c (Proc.devRef .tc main_arg0)) (L0 m c (Proc.devRef .tc main_arg2)) := by
  rw [arr4]
  show V0 m c _ = _
  rw [V0_eq]
  exact codes_eq _ _ _ fun b p r h d => pre_code_k (L0 m c) b p r h d
theorem res_v : (dats m 0 c).arrAt 5 cfg0.N = codes (L0 m c (Proc.devRef .tc main_arg0)) (L0 m c (Proc.devRef .tc main_arg3)) := by
  rw [arr5]
  show V0 m c _ = _
  rw [V0_eq]
  exact codes_eq _ _ _ fun b p r h d => pre_code_v (L0 m c) b p r h d

/-! ## After the call -/

/-- The buffers as the call leaves them. -/
def mid : Valuation τ sig (Elt Ideal) := Pipeline.withArrays spec0 c (V0 m c) fun w => (dats m 0 c).arrAt w cfg0.N

theorem tail_eq (b : Ref sig .tc) : Pipeline.afterTail₀ cfgs (dats m) 0 (V0 m) [hostOps1, hostOps1_1, hostOps1_2, hostOps1_3, hostOps1_4] c b
    = tail3 (tail2 (tail1 (mid m c))) (Proc.devRef .tc b) := by
  unfold Pipeline.afterTail₀
  simp only [List.flatten_cons, List.flatten_nil, List.append_nil, StableHlo.after_append]
  rfl

theorem mid_v18 : mid m c (Proc.devRef .tc main_v18) = pre (L0 m c) (Proc.devRef .tc main_v18) := by
  rw [← V0_eq]; exact Pipeline.withArrays_of_ne spec0 c (V0 m c) _ main_v18 (by exact (by decide : ∀ w, Pipeline.arrRef spec0 w ≠ main_v18))
theorem mid_v45 : mid m c (Proc.devRef .tc main_v45) = pre (L0 m c) (Proc.devRef .tc main_v45) := by
  rw [← V0_eq]; exact Pipeline.withArrays_of_ne spec0 c (V0 m c) _ main_v45 (by exact (by decide : ∀ w, Pipeline.arrRef spec0 w ≠ main_v45))
theorem mid_v73 : mid m c (Proc.devRef .tc main_v73) = pre (L0 m c) (Proc.devRef .tc main_v73) := by
  rw [← V0_eq]; exact Pipeline.withArrays_of_ne spec0 c (V0 m c) _ main_v73 (by exact (by decide : ∀ w, Pipeline.arrRef spec0 w ≠ main_v73))
theorem mid_v101 : mid m c (Proc.devRef .tc main_v101) = pre (L0 m c) (Proc.devRef .tc main_v101) := by
  rw [← V0_eq]; exact Pipeline.withArrays_of_ne spec0 c (V0 m c) _ main_v101 (by exact (by decide : ∀ w, Pipeline.arrRef spec0 w ≠ main_v101))
theorem mid_q : (mid m c (Proc.devRef .tc main_v109_3) : S2x57x40x16x1024.Idx → EReal) = pre (L0 m c) (Proc.devRef .tc main_v52) := by
  rw [← V0_eq]; exact (Pipeline.withArrays_arr spec0 winFacts0.arr_inj c (V0 m c) _ 6).trans (arr6 m c)
theorem mid_k : (mid m c (Proc.devRef .tc main_v109_4) : S2x57x40x16x1024.Idx → EReal) = pre (L0 m c) (Proc.devRef .tc main_v80) := by
  rw [← V0_eq]; exact (Pipeline.withArrays_arr spec0 winFacts0.arr_inj c (V0 m c) _ 7).trans (arr7 m c)
theorem mid_v : (mid m c (Proc.devRef .tc main_v109_5) : S2x57x40x16x1024.Idx → EReal) = pre (L0 m c) (Proc.devRef .tc main_v108) := by
  rw [← V0_eq]; exact (Pipeline.withArrays_arr spec0 winFacts0.arr_inj c (V0 m c) _ 8).trans (arr8 m c)

theorem res_scales : tail3 (tail2 (tail1 (mid m c))) (Proc.devRef .tc main_v150)
    = scales (L0 m c (Proc.devRef .tc main_arg0)) (L0 m c (Proc.devRef .tc main_arg1)) (L0 m c (Proc.devRef .tc main_arg2)) (L0 m c (Proc.devRef .tc main_arg3)) := by
  have H : ∀ (b : Fin 2) (p : Fin 57) (s : Fin 8) (l : Fin 640), (tail3 (tail2 (tail1 (mid m c))) (Proc.devRef .tc main_v150) : FVec Ideal S2x57x8x640 .f32) (ix4 b p s l)
      = scale ((L0 m c (Proc.devRef .tc main_arg0) : IVec S2 32) (ix1 b)) p (patchAt (if s.val = 0 then L0 m c (Proc.devRef .tc main_arg1) else if s.val = 1 then L0 m c (Proc.devRef .tc main_arg2) else L0 m c (Proc.devRef .tc main_arg3)) b p) (headOf l) := by
    intro b p s l
    rw [T3_sc, (T2_keep _).1, (T2_keep _).2.1, (T2_keep _).2.2, (T1_keep _).2.1, (T1_keep _).2.2.1, (T1_keep _).2.2.2.1, mid_v45, mid_v73, mid_v101]
    by_cases c0 : s.val = 0
    · rw [if_pos c0, if_pos c0]; exact pre_scale_q _ b p _
    · rw [if_neg c0, if_neg c0]
      by_cases c1 : s.val = 1
      · rw [if_pos c1, if_pos c1]; exact pre_scale_k _ b p _
      · rw [if_neg c1, if_neg c1]; exact pre_scale_v _ b p _
  funext j
  exact (congrArg _ (eq_ix4 (n0 := 2) (n1 := 57) (n2 := 8) (n3 := 640) j)).trans (H _ _ _ _)

/-- The masked scores. -/
theorem mid_masked (b : Fin 2) (p : Fin 57) (h : Fin 40) (i j : Fin 1024) :
    (tail1 (mid m c) (Proc.devRef .tc main_v118) : FVec Ideal S2x57x40x1024x1024 .f32) (ix5 b p h i j)
      = masked (cnt (L0 m c) b) p (pq (L0 m c) b p) (pk (L0 m c) b p) h i j := by
  rw [T1_v118, mid_v18, mid_v45, mid_v73]
  have eq : ∀ (d : Fin 16) (r : Fin 1024), asF (s := S2x57x40x16x1024) (φ := .bf16) (mid m c (Proc.devRef .tc main_v109_3)) (ix5 b p h d r) = code (cnt (L0 m c) b) p (pq (L0 m c) b p) r (lane h d) :=
    fun d r => (congrFun (mid_q m c) _).trans (pre_code_q _ b p r h d)
  have ek : ∀ (d : Fin 16) (r : Fin 1024), asF (s := S2x57x40x16x1024) (φ := .bf16) (mid m c (Proc.devRef .tc main_v109_4)) (ix5 b p h d r) = code (cnt (L0 m c) b) p (pk (L0 m c) b p) r (lane h d) :=
    fun d r => (congrFun (mid_k m c) _).trans (pre_code_k _ b p r h d)
  have sq : asF (s := S2x57x40) (φ := .f32) (pre (L0 m c) (Proc.devRef .tc main_v45)) (ix3 b p h) = scale (cnt (L0 m c) b) p (pq (L0 m c) b p) h := pre_scale_q _ b p h
  have sk : asF (s := S2x57x40) (φ := .f32) (pre (L0 m c) (Proc.devRef .tc main_v73)) (ix3 b p h) = scale (cnt (L0 m c) b) p (pk (L0 m c) b p) h := pre_scale_k _ b p h
  simp only [eq, ek]
  rw [sq, sk, pre_valid]
  rfl

theorem mid_out (b : Fin 2) (p : Fin 57) (r : Fin 1024) (l : Fin 640) :
    (tail3 (tail2 (tail1 (mid m c))) (Proc.devRef .tc main_v139) : FVec Ideal S116736x640 .bf16) (ix2 (flatRow b p r) l)
      = attn (cnt (L0 m c) b) p (pq (L0 m c) b p) (pk (L0 m c) b p) (pv (L0 m c) b p) r l := by
  have hl : lane (headOf l) ⟨l.val % 16, by omega⟩ = l := Fin.ext (by show l.val / 16 * 16 + l.val % 16 = l.val; omega)
  rw [T3_out]
  refine (T2_v136 (tail1 (mid m c)) b p (headOf l) r ⟨l.val % 16, by omega⟩).trans ?_
  rw [heads_at, (T1_keep _).1, (T1_keep _).2.2.2.1, (T1_keep _).2.2.2.2, mid_v18, mid_v101, pre_valid]
  have ev : ∀ r : Fin 1024, asF (s := S2x57x40x16x1024) (φ := .bf16) (mid m c (Proc.devRef .tc main_v109_5)) (ix5 b p (headOf l) ⟨l.val % 16, by omega⟩ r) = code (cnt (L0 m c) b) p (pv (L0 m c) b p) r l :=
    fun r => ((congrFun (mid_v m c) _).trans (pre_code_v _ b p r (headOf l) ⟨l.val % 16, by omega⟩)).trans (congrArg (code _ p _ r) hl)
  have sv : asF (s := S2x57x40) (φ := .f32) (pre (L0 m c) (Proc.devRef .tc main_v101)) (ix3 b p (headOf l)) = scale (cnt (L0 m c) b) p (pv (L0 m c) b p) (headOf l) := pre_scale_v _ b p (headOf l)
  have ew : ∀ i j : Fin 1024, asF (wts (tail1 (mid m c) (Proc.devRef .tc main_v118))) (ix5 b p (headOf l) i j)
      = weight (cnt (L0 m c) b) p (pq (L0 m c) b p) (pk (L0 m c) b p) (headOf l) i j := fun i j => by
    refine (wts_at b p (headOf l) _ i j).trans ?_
    unfold weight top
    simp only [← mid_masked m c b p (headOf l)]
  have ep : ∀ i j : Fin 1024, asF (probs (tail1 (mid m c) (Proc.devRef .tc main_v118))) (ix5 b p (headOf l) i j)
      = Ideal.div (weight (cnt (L0 m c) b) p (pq (L0 m c) b p) (pk (L0 m c) b p) (headOf l) i j) (∑ j' : Fin 1024, weight (cnt (L0 m c) b) p (pq (L0 m c) b p) (pk (L0 m c) b p) (headOf l) i j') := fun i j => by
    refine (probs_at b p (headOf l) _ i j).trans ?_
    simp only [ew]
  simp only [ep, ev]
  rw [sv]
  rfl

theorem res_outs : tail3 (tail2 (tail1 (mid m c))) (Proc.devRef .tc main_v139)
    = outs (L0 m c (Proc.devRef .tc main_arg0)) (L0 m c (Proc.devRef .tc main_arg1)) (L0 m c (Proc.devRef .tc main_arg2)) (L0 m c (Proc.devRef .tc main_arg3)) := by
  funext j
  have e : (j : S116736x640.Idx) = ix2 (n0 := 116736) (n1 := 640) (flatRow (batchOf ((show S116736x640.Idx from j) 0)) (patchOf ((show S116736x640.Idx from j) 0)) (rowOf ((show S116736x640.Idx from j) 0))) ((show S116736x640.Idx from j) 1) :=
    (eq_ix2 (n0 := 116736) (n1 := 640) j).trans (congrArg (fun R => ix2 (n0 := 116736) (n1 := 640) R _) (flat_of _).symm)
  exact (congrArg _ e).trans (mid_out m c _ _ _ _)

end Cert.ReferenceIdeal.Hand

end
-- ==== Proof.Equal.lean ====
/- The value claim: where the gathered q, k and v hold no infinity, the kernel's five results are the reference's. -/
module

public import proofs.«01_k».proof.Proof.Frames
public import proofs.«01_k».proof.Proof.KArr
public import proofs.«01_k».proof.Proof.RMain

@[expose] public section

set_option maxRecDepth 16384

noncomputable section

namespace Cert.Own

open Idealize.ShloMosaic Idealize.ShloMosaic.TcCoe Idealize.SL.Sem

/-- What the precondition's comparison says of an array. -/
theorem finite_of_le (g : FVec Ideal Cert.KernelIdeal.S116736x640 .bf16)
    (h : ∀ i, Ideal.cmp .ole (FloatOps.absf (F := Ideal) (φ := .f32) (g i)) (Ideal.ofBits .f32 0x7F7F0000#32) = 1#1) :
    Cert.KernelIdeal.Hand.Finite g := fun i => by
  have h' := h i
  unfold Ideal.cmp at h'
  refine real_of_absf _ ?_
  by_contra hc
  simp [hc] at h'

end Cert.Own

namespace Cert.KernelIdeal.Hand

open Cert.KernelIdeal.Gen Cert.Own
open Idealize.ShloMosaic Idealize.ShloMosaic.TcCoe Idealize.SL.Sem

variable (m : (ℓ : Loc nD τ sig) → Buf (Elt Ideal) ℓ) (ρ : Dev nD → PrngReg)

/-- The kernel's run: its five results, and the arguments as launched. -/
theorem values (h0 : ∀ c, Finite (gq m c)) (h1 : ∀ c, Finite (gk m c)) (h2 : ∀ c, Finite (gv m c)) :
    θ_run (defs (F := Ideal)) (onTc (τ := τ) (main (F := Ideal))) ⟨m, fun _ => 0, ρ⟩ (fun r => ∀ c : Dev nD,
      r.2.mem ((c.tc : Thread nD τ).loc main_v0_0) = codes (counts m c) (gq m c)
      ∧ r.2.mem ((c.tc : Thread nD τ).loc main_v0_1) = codes (counts m c) (gk m c)
      ∧ r.2.mem ((c.tc : Thread nD τ).loc main_v0_2) = codes (counts m c) (gv m c)
      ∧ r.2.mem ((c.tc : Thread nD τ).loc main_v0_3) = scales (counts m c) (gq m c) (gk m c) (gv m c)
      ∧ r.2.mem ((c.tc : Thread nD τ).loc main_v0_4) = outs (counts m c) (gq m c) (gk m c) (gv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (arr3 m trivial c (h0 c)), ((h.1 c).1 4).trans (arr4 m trivial c (h1 c)),
    ((h.1 c).1 5).trans (arr5 m trivial c (h2 c)), ((h.1 c).1 6).trans (arr6 m trivial c (h0 c) (h1 c) (h2 c)),
    ((h.1 c).1 7).trans (arr7 m trivial c (h0 c) (h1 c) (h2 c)), args_kept m trivial h.1 c⟩) (run_main_quiescent m ρ trivial)

end Cert.KernelIdeal.Hand

namespace Cert.ReferenceIdeal.Hand

open Cert.ReferenceIdeal Cert.ReferenceIdeal.Gen Cert.Own
open Idealize.ShloMosaic Idealize.ShloMosaic.TcCoe Idealize.SL.Sem

variable (m : (ℓ : Loc nD τ sig) → Buf (Elt Ideal) ℓ) (ρ : Dev nD → PrngReg)

/-- The reference's run: its five results, and the arguments as launched. -/
theorem values :
    θ_run (defs (F := Ideal)) (onTc (τ := τ) (main (F := Ideal))) ⟨m, fun _ => 0, ρ⟩ (fun r => ∀ c : Dev nD,
      r.2.mem ((c.tc : Thread nD τ).loc main_v109_0) = codes (m ((c.tc : Thread nD τ).loc main_arg0)) (m ((c.tc : Thread nD τ).loc main_arg1))
      ∧ r.2.mem ((c.tc : Thread nD τ).loc main_v109_1) = codes (m ((c.tc : Thread nD τ).loc main_arg0)) (m ((c.tc : Thread nD τ).loc main_arg2))
      ∧ r.2.mem ((c.tc : Thread nD τ).loc main_v109_2) = codes (m ((c.tc : Thread nD τ).loc main_arg0)) (m ((c.tc : Thread nD τ).loc main_arg3))
      ∧ r.2.mem ((c.tc : Thread nD τ).loc main_v150) = scales (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v139) = outs (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (res_q m c), ((h.1 c).1 4).trans (res_k m c), ((h.1 c).1 5).trans (res_v m c),
    ((h.1 c).2 main_v150 (Pipeline.mem_restRefs_of main_v150 (by decide) (by decide))).trans ((tail_eq m c main_v150).trans (res_scales m c)),
    ((h.1 c).2 main_v139 (Pipeline.mem_restRefs_of main_v139 (by decide) (by decide))).trans ((tail_eq m c main_v139).trans (res_outs m c)),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c)⟩) (run_main_quiescent m ρ)

end Cert.ReferenceIdeal.Hand

namespace Cert.Own

open Idealize.ShloMosaic Idealize.ShloMosaic.TcCoe Idealize.SL.Sem

/-- From equal arguments, where the gathered arrays hold no infinity, kernel and reference end with equal results. -/
theorem equal : Cert.algebraic_KernelIdeal_ReferenceIdeal_pre_finite := fun m g m' g' hpre hargs => by
  have h0 : ∀ c, Cert.KernelIdeal.Hand.Finite (Cert.KernelIdeal.Hand.gq m c) := fun c => finite_of_le _ fun i => congrFun (hpre c).1 i
  have h1 : ∀ c, Cert.KernelIdeal.Hand.Finite (Cert.KernelIdeal.Hand.gk m c) := fun c => finite_of_le _ fun i => congrFun (hpre c).2.1 i
  have h2 : ∀ c, Cert.KernelIdeal.Hand.Finite (Cert.KernelIdeal.Hand.gv m c) := fun c => finite_of_le _ fun i => congrFun (hpre c).2.2 i
  refine ⟨_, _, _, _, _, Cert.KernelIdeal.Hand.values m g h0 h1 h2, ?_⟩
  refine (θ_run Cert.ReferenceIdeal.defs _ _).mono (fun r h c => ?_) (Cert.ReferenceIdeal.Hand.values m' g')
  obtain ⟨e0, e1, e2, e3⟩ := hargs c
  obtain ⟨r0, r1, r2, r3, r4, ra⟩ := h c
  refine ⟨r0.trans ?_, r1.trans ?_, r2.trans ?_, r3.trans ?_, r4.trans ?_, ra⟩
  · rw [e0, e1]
  · rw [e0, e2]
  · rw [e0, e3]
  · rw [e0, e1, e2, e3]
  · rw [e0, e1, e2, e3]

end Cert.Own

end
-- ==== Proof.lean ====
module

public import proofs.«01_k».proof.Defs
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    Cert.Own.frame_kernel, Cert.Own.frame_kernelIdeal, Cert.Own.frame_kernelIdeal_finite,
    Cert.Own.frame_referenceIdeal, Cert.Own.frame_referenceIdeal_finite, Cert.Own.preserves, Cert.Own.equal⟩

end Cert.Proof

end
